-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_and_finite [hPre_codes_and_finite : Cert.Pre_codes_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codes_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_and_finite [hPre_codes_and_finite : Cert.Pre_codes_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_codes_and_finite [hKernelIdeal : Cert.KernelIdeal.Facts] [hPre_codes_and_finite : Cert.Pre_codes_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_codes_and_finite [hReferenceIdeal : Cert.ReferenceIdeal.Facts] [hPre_codes_and_finite : Cert.Pre_codes_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_codes_and_finite [hKernelIdeal : Cert.KernelIdeal.Facts] [hReferenceIdeal : Cert.ReferenceIdeal.Facts] [hPre_codes_and_finite : Cert.Pre_codes_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_codes_and_finite : Cert.Pre_codes_and_finite.Facts),
    quiescent_Kernel (hKernel := hKernel)
    ∧ quiescent_KernelIdeal (hKernelIdeal := hKernelIdeal)
    ∧ quiescent_KernelIdeal_pre_codes_and_finite (hKernelIdeal := hKernelIdeal) (hPre_codes_and_finite := hPre_codes_and_finite)
    ∧ quiescent_ReferenceIdeal (hReferenceIdeal := hReferenceIdeal)
    ∧ quiescent_ReferenceIdeal_pre_codes_and_finite (hReferenceIdeal := hReferenceIdeal) (hPre_codes_and_finite := hPre_codes_and_finite)
    ∧ preserves_Kernel_KernelIdeal
    ∧ algebraic_KernelIdeal_ReferenceIdeal_pre_codes_and_finite (hKernelIdeal := hKernelIdeal) (hReferenceIdeal := hReferenceIdeal) (hPre_codes_and_finite := hPre_codes_and_finite)
-- ==== Pre_codes_and_finite.lean ====
abbrev S1024x200x3 : Shape := ⟨3, ![1024, 200, 3]⟩
abbrev S1024x200x15 : Shape := ⟨3, ![1024, 200, 15]⟩
abbrev S3x96 : Shape := ⟨2, ![3, 96]⟩
abbrev S96 : Shape := ⟨1, ![96]⟩
abbrev S26x16 : Shape := ⟨2, ![26, 16]⟩
abbrev S18x16 : Shape := ⟨2, ![18, 16]⟩
abbrev S25x16 : Shape := ⟨2, ![25, 16]⟩
abbrev S8x16 : Shape := ⟨2, ![8, 16]⟩
abbrev S3x16 : Shape := ⟨2, ![3, 16]⟩
abbrev S186x128 : Shape := ⟨2, ![186, 128]⟩
abbrev S128 : Shape := ⟨1, ![128]⟩
abbrev S1024x200x1 : Shape := ⟨3, ![1024, 200, 1]⟩
abbrev S1024x200 : Shape := ⟨2, ![1024, 200]⟩
abbrev S_ : Shape := ⟨0, ![]⟩
abbrev S96x128 : Shape := ⟨2, ![96, 128]⟩

class Facts : Prop where
  slices_S1024x200x15_S1024x200x1_0_0_10 : S1024x200x15.Slices ![0, 0, 10] S1024x200x1
  shapeCasts_S1024x200x1_S1024x200 : S1024x200x1.ShapeCasts S1024x200
  bcast_S_S1024x200 : S_.BroadcastsInDim S1024x200 (![] : Fin 0 → Fin S1024x200.rank)
  reducesTo_S1024x200_S_d0_1 : S1024x200.ReducesTo [0, 1] S_
  h_S_ : 0 < S_.numel
  slices_S1024x200x15_S1024x200x1_0_0_11 : S1024x200x15.Slices ![0, 0, 11] S1024x200x1
  slices_S1024x200x15_S1024x200x1_0_0_12 : S1024x200x15.Slices ![0, 0, 12] S1024x200x1
  slices_S1024x200x15_S1024x200x1_0_0_13 : S1024x200x15.Slices ![0, 0, 13] S1024x200x1
  slices_S1024x200x15_S1024x200x1_0_0_14 : S1024x200x15.Slices ![0, 0, 14] S1024x200x1
  bcast_S_S1024x200x3 : S_.BroadcastsInDim S1024x200x3 (![] : Fin 0 → Fin S1024x200x3.rank)
  reducesTo_S1024x200x3_S_d0_1_2 : S1024x200x3.ReducesTo [0, 1, 2] S_
  bcast_S_S3x96 : S_.BroadcastsInDim S3x96 (![] : Fin 0 → Fin S3x96.rank)
  reducesTo_S3x96_S_d0_1 : S3x96.ReducesTo [0, 1] S_
  slices_S186x128_S96x128_0_0 : S186x128.Slices ![0, 0] S96x128
  bcast_S_S96x128 : S_.BroadcastsInDim S96x128 (![] : Fin 0 → Fin S96x128.rank)
  reducesTo_S96x128_S_d0_1 : S96x128.ReducesTo [0, 1] S_

variable [Facts]

def fn_part4 {F : FTy → Type} [FloatOps F] (main_v63 : IVec S_ 1) (main_v72 : IVec S_ 1) (main_v74 : FVec F S96x128 .f32) (main_v75 : FVec F S96x128 .f32) : IVec S_ 1 :=
  let main_v76 : IVec S96x128 1 := cmpf .olt main_v74 main_v75
  let main_c_18 : IVec S_ 1 := constantI S_ 1 1#1
  let main_v77 : IVec S_ 1 := (fun x v => Host.reduce IntOp.andi x v reducesTo_S96x128_S_d0_1 h_S_) main_v76 main_c_18
  let main_v78 : IVec S_ 1 := andi main_v72 main_v77
  let main_v79 : IVec S_ 1 := andi main_v63 main_v78
  main_v79

def fn_part3 {F : FTy → Type} [FloatOps F] (main_arg0 : FVec F S1024x200x3 .f32) (main_arg2 : FVec F S3x96 .f32) (main_arg9 : FVec F S186x128 .f32) (main_v50 : IVec S_ 1) (main_v53 : IVec S1024x200 32) (main_v58 : IVec S1024x200 1) : IVec S_ 1 :=
  let main_c_12 : IVec S_ 32 := constantI S_ 32 3#32
  let main_v59 : IVec S1024x200 32 := broadcastInDim S1024x200 ![] bcast_S_S1024x200 main_c_12
  let main_v60 : IVec S1024x200 1 := cmpi .slt main_v53 main_v59
  let main_v61 : IVec S1024x200 1 := andi main_v58 main_v60
  let main_c_13 : IVec S_ 1 := constantI S_ 1 1#1
  let main_v62 : IVec S_ 1 := (fun x v => Host.reduce IntOp.andi x v reducesTo_S1024x200_S_d0_1 h_S_) main_v61 main_c_13
  let main_v63 : IVec S_ 1 := andi main_v50 main_v62
  let main_v64 : FVec F S1024x200x3 .f32 := Host.absf main_arg0
  let main_cst : FVec F S_ .f32 := constant S_ .f32 0x7F800000#32
  let main_v65 : FVec F S1024x200x3 .f32 := broadcastInDim S1024x200x3 ![] bcast_S_S1024x200x3 main_cst
  let main_v66 : IVec S1024x200x3 1 := cmpf .olt main_v64 main_v65
  let main_c_14 : IVec S_ 1 := constantI S_ 1 1#1
  let main_v67 : IVec S_ 1 := (fun x v => Host.reduce IntOp.andi x v reducesTo_S1024x200x3_S_d0_1_2 h_S_) main_v66 main_c_14
  let main_v68 : FVec F S3x96 .f32 := Host.absf main_arg2
  let main_cst_15 : FVec F S_ .f32 := constant S_ .f32 0x7F800000#32
  let main_v69 : FVec F S3x96 .f32 := broadcastInDim S3x96 ![] bcast_S_S3x96 main_cst_15
  let main_v70 : IVec S3x96 1 := cmpf .olt main_v68 main_v69
  let main_c_16 : IVec S_ 1 := constantI S_ 1 1#1
  let main_v71 : IVec S_ 1 := (fun x v => Host.reduce IntOp.andi x v reducesTo_S3x96_S_d0_1 h_S_) main_v70 main_c_16
  let main_v72 : IVec S_ 1 := andi main_v67 main_v71
  let main_v73 : FVec F S96x128 .f32 := (extractStridedSlice S96x128 ![0, 0] · slices_S186x128_S96x128_0_0) main_arg9
  let main_v74 : FVec F S96x128 .f32 := Host.absf main_v73
  let main_cst_17 : FVec F S_ .f32 := constant S_ .f32 0x7F800000#32
  let main_v75 : FVec F S96x128 .f32 := broadcastInDim S96x128 ![] bcast_S_S96x128 main_cst_17
  fn_part4 (F := F) main_v63 main_v72 main_v74 main_v75

def fn_part2 {F : FTy → Type} [FloatOps F] (main_arg0 : FVec F S1024x200x3 .f32) (main_arg1 : FVec F S1024x200x15 .f32) (main_arg2 : FVec F S3x96 .f32) (main_arg9 : FVec F S186x128 .f32) (main_v37 : IVec S_ 1) (main_v38 : FVec F S1024x200x1 .f32) : IVec S_ 1 :=
  let main_v39 : FVec F S1024x200 .f32 := shapeCast S1024x200 main_v38 shapeCasts_S1024x200x1_S1024x200
  let main_v40 : IVec S1024x200 32 := fptosi 32 main_v39
  let main_v41 : FVec F S1024x200 .f32 := sitofp .f32 main_v40
  let main_v42 : IVec S1024x200 1 := cmpf .oeq main_v41 main_v39
  let main_c_8 : IVec S_ 32 := constantI S_ 32 0#32
  let main_v43 : IVec S1024x200 32 := broadcastInDim S1024x200 ![] bcast_S_S1024x200 main_c_8
  let main_v44 : IVec S1024x200 1 := cmpi .sge main_v40 main_v43
  let main_v45 : IVec S1024x200 1 := andi main_v42 main_v44
  let main_c_9 : IVec S_ 32 := constantI S_ 32 8#32
  let main_v46 : IVec S1024x200 32 := broadcastInDim S1024x200 ![] bcast_S_S1024x200 main_c_9
  let main_v47 : IVec S1024x200 1 := cmpi .slt main_v40 main_v46
  let main_v48 : IVec S1024x200 1 := andi main_v45 main_v47
  let main_c_10 : IVec S_ 1 := constantI S_ 1 1#1
  let main_v49 : IVec S_ 1 := (fun x v => Host.reduce IntOp.andi x v reducesTo_S1024x200_S_d0_1 h_S_) main_v48 main_c_10
  let main_v50 : IVec S_ 1 := andi main_v37 main_v49
  let main_v51 : FVec F S1024x200x1 .f32 := (extractStridedSlice S1024x200x1 ![0, 0, 14] · slices_S1024x200x15_S1024x200x1_0_0_14) main_arg1
  let main_v52 : FVec F S1024x200 .f32 := shapeCast S1024x200 main_v51 shapeCasts_S1024x200x1_S1024x200
  let main_v53 : IVec S1024x200 32 := fptosi 32 main_v52
  let main_v54 : FVec F S1024x200 .f32 := sitofp .f32 main_v53
  let main_v55 : IVec S1024x200 1 := cmpf .oeq main_v54 main_v52
  let main_c_11 : IVec S_ 32 := constantI S_ 32 0#32
  let main_v56 : IVec S1024x200 32 := broadcastInDim S1024x200 ![] bcast_S_S1024x200 main_c_11
  let main_v57 : IVec S1024x200 1 := cmpi .sge main_v53 main_v56
  let main_v58 : IVec S1024x200 1 := andi main_v55 main_v57
  fn_part3 (F := F) main_arg0 main_arg2 main_arg9 main_v50 main_v53 main_v58

def fn_part1 {F : FTy → Type} [FloatOps F] (main_arg0 : FVec F S1024x200x3 .f32) (main_arg1 : FVec F S1024x200x15 .f32) (main_arg2 : FVec F S3x96 .f32) (main_arg9 : FVec F S186x128 .f32) (main_v11 : IVec S_ 1) (main_v14 : IVec S1024x200 32) (main_v19 : IVec S1024x200 1) : IVec S_ 1 :=
  let main_c_3 : IVec S_ 32 := constantI S_ 32 18#32
  let main_v20 : IVec S1024x200 32 := broadcastInDim S1024x200 ![] bcast_S_S1024x200 main_c_3
  let main_v21 : IVec S1024x200 1 := cmpi .slt main_v14 main_v20
  let main_v22 : IVec S1024x200 1 := andi main_v19 main_v21
  let main_c_4 : IVec S_ 1 := constantI S_ 1 1#1
  let main_v23 : IVec S_ 1 := (fun x v => Host.reduce IntOp.andi x v reducesTo_S1024x200_S_d0_1 h_S_) main_v22 main_c_4
  let main_v24 : IVec S_ 1 := andi main_v11 main_v23
  let main_v25 : FVec F S1024x200x1 .f32 := (extractStridedSlice S1024x200x1 ![0, 0, 12] · slices_S1024x200x15_S1024x200x1_0_0_12) main_arg1
  let main_v26 : FVec F S1024x200 .f32 := shapeCast S1024x200 main_v25 shapeCasts_S1024x200x1_S1024x200
  let main_v27 : IVec S1024x200 32 := fptosi 32 main_v26
  let main_v28 : FVec F S1024x200 .f32 := sitofp .f32 main_v27
  let main_v29 : IVec S1024x200 1 := cmpf .oeq main_v28 main_v26
  let main_c_5 : IVec S_ 32 := constantI S_ 32 0#32
  let main_v30 : IVec S1024x200 32 := broadcastInDim S1024x200 ![] bcast_S_S1024x200 main_c_5
  let main_v31 : IVec S1024x200 1 := cmpi .sge main_v27 main_v30
  let main_v32 : IVec S1024x200 1 := andi main_v29 main_v31
  let main_c_6 : IVec S_ 32 := constantI S_ 32 25#32
  let main_v33 : IVec S1024x200 32 := broadcastInDim S1024x200 ![] bcast_S_S1024x200 main_c_6
  let main_v34 : IVec S1024x200 1 := cmpi .slt main_v27 main_v33
  let main_v35 : IVec S1024x200 1 := andi main_v32 main_v34
  let main_c_7 : IVec S_ 1 := constantI S_ 1 1#1
  let main_v36 : IVec S_ 1 := (fun x v => Host.reduce IntOp.andi x v reducesTo_S1024x200_S_d0_1 h_S_) main_v35 main_c_7
  let main_v37 : IVec S_ 1 := andi main_v24 main_v36
  let main_v38 : FVec F S1024x200x1 .f32 := (extractStridedSlice S1024x200x1 ![0, 0, 13] · slices_S1024x200x15_S1024x200x1_0_0_13) main_arg1
  fn_part2 (F := F) main_arg0 main_arg1 main_arg2 main_arg9 main_v37 main_v38

def fn {F : FTy → Type} [FloatOps F] (main_arg0 : FVec F S1024x200x3 .f32) (main_arg1 : FVec F S1024x200x15 .f32) (main_arg2 : FVec F S3x96 .f32) (main_arg3 : FVec F S96 .f32) (main_arg4 : FVec F S26x16 .f32) (main_arg5 : FVec F S18x16 .f32) (main_arg6 : FVec F S25x16 .f32) (main_arg7 : FVec F S8x16 .f32) (main_arg8 : FVec F S3x16 .f32) (main_arg9 : FVec F S186x128 .f32) (main_arg10 : FVec F S128 .f32) : IVec S_ 1 :=
  let main_v0 : FVec F S1024x200x1 .f32 := (extractStridedSlice S1024x200x1 ![0, 0, 10] · slices_S1024x200x15_S1024x200x1_0_0_10) main_arg1
  let main_v1 : FVec F S1024x200 .f32 := shapeCast S1024x200 main_v0 shapeCasts_S1024x200x1_S1024x200
  let main_v2 : IVec S1024x200 32 := fptosi 32 main_v1
  let main_v3 : FVec F S1024x200 .f32 := sitofp .f32 main_v2
  let main_v4 : IVec S1024x200 1 := cmpf .oeq main_v3 main_v1
  let main_c : IVec S_ 32 := constantI S_ 32 0#32
  let main_v5 : IVec S1024x200 32 := broadcastInDim S1024x200 ![] bcast_S_S1024x200 main_c
  let main_v6 : IVec S1024x200 1 := cmpi .sge main_v2 main_v5
  let main_v7 : IVec S1024x200 1 := andi main_v4 main_v6
  let main_c_0 : IVec S_ 32 := constantI S_ 32 26#32
  let main_v8 : IVec S1024x200 32 := broadcastInDim S1024x200 ![] bcast_S_S1024x200 main_c_0
  let main_v9 : IVec S1024x200 1 := cmpi .slt main_v2 main_v8
  let main_v10 : IVec S1024x200 1 := andi main_v7 main_v9
  let main_c_1 : IVec S_ 1 := constantI S_ 1 1#1
  let main_v11 : IVec S_ 1 := (fun x v => Host.reduce IntOp.andi x v reducesTo_S1024x200_S_d0_1 h_S_) main_v10 main_c_1
  let main_v12 : FVec F S1024x200x1 .f32 := (extractStridedSlice S1024x200x1 ![0, 0, 11] · slices_S1024x200x15_S1024x200x1_0_0_11) main_arg1
  let main_v13 : FVec F S1024x200 .f32 := shapeCast S1024x200 main_v12 shapeCasts_S1024x200x1_S1024x200
  let main_v14 : IVec S1024x200 32 := fptosi 32 main_v13
  let main_v15 : FVec F S1024x200 .f32 := sitofp .f32 main_v14
  let main_v16 : IVec S1024x200 1 := cmpf .oeq main_v15 main_v13
  let main_c_2 : IVec S_ 32 := constantI S_ 32 0#32
  let main_v17 : IVec S1024x200 32 := broadcastInDim S1024x200 ![] bcast_S_S1024x200 main_c_2
  let main_v18 : IVec S1024x200 1 := cmpi .sge main_v14 main_v17
  let main_v19 : IVec S1024x200 1 := andi main_v16 main_v18
  fn_part1 (F := F) main_arg0 main_arg1 main_arg2 main_arg9 main_v11 main_v14 main_v19
-- ==== Kernel.lean ====
abbrev S1024x200x3 : Shape := ⟨3, ![1024, 200, 3]⟩
abbrev S1024x200x15 : Shape := ⟨3, ![1024, 200, 15]⟩
abbrev S3x96 : Shape := ⟨2, ![3, 96]⟩
abbrev S96 : Shape := ⟨1, ![96]⟩
abbrev S26x16 : Shape := ⟨2, ![26, 16]⟩
abbrev S18x16 : Shape := ⟨2, ![18, 16]⟩
abbrev S25x16 : Shape := ⟨2, ![25, 16]⟩
abbrev S8x16 : Shape := ⟨2, ![8, 16]⟩
abbrev S3x16 : Shape := ⟨2, ![3, 16]⟩
abbrev S186x128 : Shape := ⟨2, ![186, 128]⟩
abbrev S128 : Shape := ⟨1, ![128]⟩
abbrev S204800x3 : Shape := ⟨2, ![204800, 3]⟩
abbrev S204800x15 : Shape := ⟨2, ![204800, 15]⟩
abbrev S204800x18 : Shape := ⟨2, ![204800, 18]⟩
abbrev S18x204800 : Shape := ⟨2, ![18, 204800]⟩
abbrev S1x96 : Shape := ⟨2, ![1, 96]⟩
abbrev S_ : Shape := ⟨0, ![]⟩
abbrev S4x96 : Shape := ⟨2, ![4, 96]⟩
abbrev S8x96 : Shape := ⟨2, ![8, 96]⟩
abbrev S96x128 : Shape := ⟨2, ![96, 128]⟩
abbrev S10x128 : Shape := ⟨2, ![10, 128]⟩
abbrev S80x128 : Shape := ⟨2, ![80, 128]⟩
abbrev S80x16 : Shape := ⟨2, ![80, 16]⟩
abbrev S1x80x1x16 : Shape := ⟨4, ![1, 80, 1, 16]⟩
abbrev S1x80x5x16 : Shape := ⟨4, ![1, 80, 5, 16]⟩
abbrev S80x80 : Shape := ⟨2, ![80, 80]⟩
abbrev S1x128 : Shape := ⟨2, ![1, 128]⟩
abbrev S1024x200x128 : Shape := ⟨3, ![1024, 200, 128]⟩
abbrev S18x25600 : Shape := ⟨2, ![18, 25600]⟩
abbrev S128x200x128 : Shape := ⟨3, ![128, 200, 128]⟩
abbrev S8x128 : Shape := ⟨2, ![8, 128]⟩
abbrev S24x80 : Shape := ⟨2, ![24, 80]⟩
abbrev S8x80 : Shape := ⟨2, ![8, 80]⟩
abbrev S24x128 : Shape := ⟨2, ![24, 128]⟩
abbrev S3x128 : Shape := ⟨2, ![3, 128]⟩
abbrev S11x128 : Shape := ⟨2, ![11, 128]⟩
abbrev S18x80 : Shape := ⟨2, ![18, 80]⟩
abbrev S25600x80 : Shape := ⟨2, ![25600, 80]⟩
abbrev S1x80 : Shape := ⟨2, ![1, 80]⟩
abbrev S18x128 : Shape := ⟨2, ![18, 128]⟩
abbrev S25600x128 : Shape := ⟨2, ![25600, 128]⟩

abbrev nBuf : Space → Nat
  | .hbm => 29
  | .vmem => 15
  | .smem => 0
  | _ => 0

abbrev bufTy : (tb : Table) → Fin (tcTables nBuf tb) → BufTy
  | .hbm, ⟨0, _⟩ => ⟨S1024x200x3, .f32⟩
  | .hbm, ⟨1, _⟩ => ⟨S1024x200x15, .f32⟩
  | .hbm, ⟨2, _⟩ => ⟨S3x96, .f32⟩
  | .hbm, ⟨3, _⟩ => ⟨S96, .f32⟩
  | .hbm, ⟨4, _⟩ => ⟨S26x16, .f32⟩
  | .hbm, ⟨5, _⟩ => ⟨S18x16, .f32⟩
  | .hbm, ⟨6, _⟩ => ⟨S25x16, .f32⟩
  | .hbm, ⟨7, _⟩ => ⟨S8x16, .f32⟩
  | .hbm, ⟨8, _⟩ => ⟨S3x16, .f32⟩
  | .hbm, ⟨9, _⟩ => ⟨S186x128, .f32⟩
  | .hbm, ⟨10, _⟩ => ⟨S128, .f32⟩
  | .hbm, ⟨11, _⟩ => ⟨S204800x3, .f32⟩
  | .hbm, ⟨12, _⟩ => ⟨S204800x15, .f32⟩
  | .hbm, ⟨13, _⟩ => ⟨S204800x18, .f32⟩
  | .hbm, ⟨14, _⟩ => ⟨S18x204800, .f32⟩
  | .hbm, ⟨15, _⟩ => ⟨S18x204800, .bf16⟩
  | .hbm, ⟨16, _⟩ => ⟨S1x96, .f32⟩
  | .hbm, ⟨17, _⟩ => ⟨S_, .f32⟩
  | .hbm, ⟨18, _⟩ => ⟨S4x96, .f32⟩
  | .hbm, ⟨19, _⟩ => ⟨S8x96, .f32⟩
  | .hbm, ⟨20, _⟩ => ⟨S96x128, .f32⟩
  | .hbm, ⟨21, _⟩ => ⟨S10x128, .f32⟩
  | .hbm, ⟨22, _⟩ => ⟨S80x128, .f32⟩
  | .hbm, ⟨23, _⟩ => ⟨S80x16, .f32⟩
  | .hbm, ⟨24, _⟩ => ⟨S1x80x1x16, .f32⟩
  | .hbm, ⟨25, _⟩ => ⟨S1x80x5x16, .f32⟩
  | .hbm, ⟨26, _⟩ => ⟨S80x80, .f32⟩
  | .hbm, ⟨27, _⟩ => ⟨S1x128, .f32⟩
  | .hbm, ⟨28, _⟩ => ⟨S1024x200x128, .f32⟩
  | .local _ .vmem, ⟨0, _⟩ => ⟨S18x25600, .bf16⟩
  | .local _ .vmem, ⟨1, _⟩ => ⟨S18x25600, .bf16⟩
  | .local _ .vmem, ⟨2, _⟩ => ⟨S8x96, .f32⟩
  | .local _ .vmem, ⟨3, _⟩ => ⟨S96x128, .f32⟩
  | .local _ .vmem, ⟨4, _⟩ => ⟨S10x128, .f32⟩
  | .local _ .vmem, ⟨5, _⟩ => ⟨S80x128, .f32⟩
  | .local _ .vmem, ⟨6, _⟩ => ⟨S80x80, .f32⟩
  | .local _ .vmem, ⟨7, _⟩ => ⟨S1x128, .f32⟩
  | .local _ .vmem, ⟨8, _⟩ => ⟨S128x200x128, .f32⟩
  | .local _ .vmem, ⟨9, _⟩ => ⟨S128x200x128, .f32⟩
  | .local _ .vmem, ⟨10, _⟩ => ⟨S8x128, .f32⟩
  | .local _ .vmem, ⟨11, _⟩ => ⟨S80x128, .f32⟩
  | .local _ .vmem, ⟨12, _⟩ => ⟨S24x80, .f32⟩
  | .local _ .vmem, ⟨13, _⟩ => ⟨S8x80, .f32⟩
  | .local _ .vmem, ⟨14, _⟩ => ⟨S24x128, .f32⟩
  | _, _ => ⟨S1024x200x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S18x25600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x200x3 : Shape := ⟨3, ![1024, 200, 3]⟩
abbrev S1024x200x15 : Shape := ⟨3, ![1024, 200, 15]⟩
abbrev S3x96 : Shape := ⟨2, ![3, 96]⟩
abbrev S96 : Shape := ⟨1, ![96]⟩
abbrev S26x16 : Shape := ⟨2, ![26, 16]⟩
abbrev S18x16 : Shape := ⟨2, ![18, 16]⟩
abbrev S25x16 : Shape := ⟨2, ![25, 16]⟩
abbrev S8x16 : Shape := ⟨2, ![8, 16]⟩
abbrev S3x16 : Shape := ⟨2, ![3, 16]⟩
abbrev S186x128 : Shape := ⟨2, ![186, 128]⟩
abbrev S128 : Shape := ⟨1, ![128]⟩
abbrev S1024x200x10 : Shape := ⟨3, ![1024, 200, 10]⟩
abbrev S1024x200x1 : Shape := ⟨3, ![1024, 200, 1]⟩
abbrev S1024x200 : Shape := ⟨2, ![1024, 200]⟩
abbrev S1024x200x96 : Shape := ⟨3, ![1024, 200, 96]⟩
abbrev S1x1x96 : Shape := ⟨3, ![1, 1, 96]⟩
abbrev S_ : Shape := ⟨0, ![]⟩
abbrev S1 : Shape := ⟨1, ![1]⟩
abbrev S1x1x1 : Shape := ⟨3, ![1, 1, 1]⟩
abbrev S1024x200x16 : Shape := ⟨3, ![1024, 200, 16]⟩
abbrev S1024x200x186 : Shape := ⟨3, ![1024, 200, 186]⟩
abbrev S1024x200x128 : Shape := ⟨3, ![1024, 200, 128]⟩
abbrev S1x1x128 : Shape := ⟨3, ![1, 1, 128]⟩

abbrev nBuf : Space → Nat
  | .hbm => 154
  | .vmem => 0
  | .smem => 0
  | _ => 0

abbrev hbmTy0_0 (i : Nat) : BufTy := match i % 128 with
  | 0 => ⟨S1024x200x3, .f32⟩
  | 1 => ⟨S1024x200x15, .f32⟩
  | 2 => ⟨S3x96, .f32⟩
  | 3 => ⟨S96, .f32⟩
  | 4 => ⟨S26x16, .f32⟩
  | 5 => ⟨S18x16, .f32⟩
  | 6 => ⟨S25x16, .f32⟩
  | 7 => ⟨S8x16, .f32⟩
  | 8 => ⟨S3x16, .f32⟩
  | 9 => ⟨S186x128, .f32⟩
  | 10 => ⟨S128, .f32⟩
  | 11 => ⟨S1024x200x10, .f32⟩
  | 12 => ⟨S1024x200x1, .f32⟩
  | 13 => ⟨S1024x200, .f32⟩
  | 14 => ⟨S1024x200, .i32⟩
  | 15 => ⟨S1024x200x1, .f32⟩
  | 16 => ⟨S1024x200, .f32⟩
  | 17 => ⟨S1024x200, .i32⟩
  | 18 => ⟨S1024x200x1, .f32⟩
  | 19 => ⟨S1024x200, .f32⟩
  | 20 => ⟨S1024x200, .i32⟩
  | 21 => ⟨S1024x200x1, .f32⟩
  | 22 => ⟨S1024x200, .f32⟩
  | 23 => ⟨S1024x200, .i32⟩
  | 24 => ⟨S1024x200x1, .f32⟩
  | 25 => ⟨S1024x200, .f32⟩
  | 26 => ⟨S1024x200, .i32⟩
  | 27 => ⟨S1024x200x96, .f32⟩
  | 28 => ⟨S1x1x96, .f32⟩
  | 29 => ⟨S1024x200x96, .f32⟩
  | 30 => ⟨S1024x200x96, .f32⟩
  | 31 => ⟨S_, .i32⟩
  | 32 => ⟨S1024x200, .i32⟩
  | 33 => ⟨S1024x200, .i1⟩
  | 34 => ⟨S_, .i32⟩
  | 35 => ⟨S1024x200, .i32⟩
  | 36 => ⟨S1024x200, .i32⟩
  | 37 => ⟨S1024x200, .i32⟩
  | 38 => ⟨S1024x200x1, .i32⟩
  | 39 => ⟨S1, .i32⟩
  | 40 => ⟨S_, .i32⟩
  | 41 => ⟨S1024x200x1, .i32⟩
  | 42 => ⟨S1024x200x1, .i1⟩
  | 43 => ⟨S1x1x1, .i32⟩
  | 44 => ⟨S1024x200x1, .i32⟩
  | 45 => ⟨S1024x200x1, .i1⟩
  | 46 => ⟨S1024x200x1, .i1⟩
  | 47 => ⟨S_, .i1⟩
  | 48 => ⟨S1024x200, .i1⟩
  | 49 => ⟨S1024x200x16, .f32⟩
  | 50 => ⟨S1024x200x16, .i1⟩
  | 51 => ⟨S_, .f32⟩
  | 52 => ⟨S1024x200x16, .f32⟩
  | 53 => ⟨S1024x200x16, .f32⟩
  | 54 => ⟨S_, .i32⟩
  | 55 => ⟨S1024x200, .i32⟩
  | 56 => ⟨S1024x200, .i1⟩
  | 57 => ⟨S_, .i32⟩
  | 58 => ⟨S1024x200, .i32⟩
  | 59 => ⟨S1024x200, .i32⟩
  | 60 => ⟨S1024x200, .i32⟩
  | 61 => ⟨S1024x200x1, .i32⟩
  | 62 => ⟨S1, .i32⟩
  | 63 => ⟨S_, .i32⟩
  | 64 => ⟨S1024x200x1, .i32⟩
  | 65 => ⟨S1024x200x1, .i1⟩
  | 66 => ⟨S1x1x1, .i32⟩
  | 67 => ⟨S1024x200x1, .i32⟩
  | 68 => ⟨S1024x200x1, .i1⟩
  | 69 => ⟨S1024x200x1, .i1⟩
  | 70 => ⟨S_, .i1⟩
  | 71 => ⟨S1024x200, .i1⟩
  | 72 => ⟨S1024x200x16, .f32⟩
  | 73 => ⟨S1024x200x16, .i1⟩
  | 74 => ⟨S_, .f32⟩
  | 75 => ⟨S1024x200x16, .f32⟩
  | 76 => ⟨S1024x200x16, .f32⟩
  | 77 => ⟨S_, .i32⟩
  | 78 => ⟨S1024x200, .i32⟩
  | 79 => ⟨S1024x200, .i1⟩
  | 80 => ⟨S_, .i32⟩
  | 81 => ⟨S1024x200, .i32⟩
  | 82 => ⟨S1024x200, .i32⟩
  | 83 => ⟨S1024x200, .i32⟩
  | 84 => ⟨S1024x200x1, .i32⟩
  | 85 => ⟨S1, .i32⟩
  | 86 => ⟨S_, .i32⟩
  | 87 => ⟨S1024x200x1, .i32⟩
  | 88 => ⟨S1024x200x1, .i1⟩
  | 89 => ⟨S1x1x1, .i32⟩
  | 90 => ⟨S1024x200x1, .i32⟩
  | 91 => ⟨S1024x200x1, .i1⟩
  | 92 => ⟨S1024x200x1, .i1⟩
  | 93 => ⟨S_, .i1⟩
  | 94 => ⟨S1024x200, .i1⟩
  | 95 => ⟨S1024x200x16, .f32⟩
  | 96 => ⟨S1024x200x16, .i1⟩
  | 97 => ⟨S_, .f32⟩
  | 98 => ⟨S1024x200x16, .f32⟩
  | 99 => ⟨S1024x200x16, .f32⟩
  | 100 => ⟨S_, .i32⟩
  | 101 => ⟨S1024x200, .i32⟩
  | 102 => ⟨S1024x200, .i1⟩
  | 103 => ⟨S_, .i32⟩
  | 104 => ⟨S1024x200, .i32⟩
  | 105 => ⟨S1024x200, .i32⟩
  | 106 => ⟨S1024x200, .i32⟩
  | 107 => ⟨S1024x200x1, .i32⟩
  | 108 => ⟨S1, .i32⟩
  | 109 => ⟨S_, .i32⟩
  | 110 => ⟨S1024x200x1, .i32⟩
  | 111 => ⟨S1024x200x1, .i1⟩
  | 112 => ⟨S1x1x1, .i32⟩
  | 113 => ⟨S1024x200x1, .i32⟩
  | 114 => ⟨S1024x200x1, .i1⟩
  | 115 => ⟨S1024x200x1, .i1⟩
  | 116 => ⟨S_, .i1⟩
  | 117 => ⟨S1024x200, .i1⟩
  | 118 => ⟨S1024x200x16, .f32⟩
  | 119 => ⟨S1024x200x16, .i1⟩
  | 120 => ⟨S_, .f32⟩
  | 121 => ⟨S1024x200x16, .f32⟩
  | 122 => ⟨S1024x200x16, .f32⟩
  | 123 => ⟨S_, .i32⟩
  | 124 => ⟨S1024x200, .i32⟩
  | 125 => ⟨S1024x200, .i1⟩
  | 126 => ⟨S_, .i32⟩
  | 127 => ⟨S1024x200, .i32⟩
  | _ => ⟨S1024x200x3, .f32⟩

abbrev hbmTy0_1 (i : Nat) : BufTy := match i % 128 with
  | 0 => ⟨S1024x200, .i32⟩
  | 1 => ⟨S1024x200, .i32⟩
  | 2 => ⟨S1024x200x1, .i32⟩
  | 3 => ⟨S1, .i32⟩
  | 4 => ⟨S_, .i32⟩
  | 5 => ⟨S1024x200x1, .i32⟩
  | 6 => ⟨S1024x200x1, .i1⟩
  | 7 => ⟨S1x1x1, .i32⟩
  | 8 => ⟨S1024x200x1, .i32⟩
  | 9 => ⟨S1024x200x1, .i1⟩
  | 10 => ⟨S1024x200x1, .i1⟩
  | 11 => ⟨S_, .i1⟩
  | 12 => ⟨S1024x200, .i1⟩
  | 13 => ⟨S1024x200x16, .f32⟩
  | 14 => ⟨S1024x200x16, .i1⟩
  | 15 => ⟨S_, .f32⟩
  | 16 => ⟨S1024x200x16, .f32⟩
  | 17 => ⟨S1024x200x16, .f32⟩
  | 18 => ⟨S1024x200x186, .f32⟩
  | 19 => ⟨S1024x200x128, .f32⟩
  | 20 => ⟨S1x1x128, .f32⟩
  | 21 => ⟨S1024x200x128, .f32⟩
  | 22 => ⟨S1024x200x128, .f32⟩
  | 23 => ⟨S_, .f32⟩
  | 24 => ⟨S1024x200x128, .f32⟩
  | 25 => ⟨S1024x200x128, .f32⟩
  | _ => ⟨S1024x200x3, .f32⟩

abbrev hbmTy (i : Nat) : BufTy := match i / 128 with
  | 0 => hbmTy0_0 i
  | 1 => hbmTy0_1 i
  | _ => ⟨S1024x200x3, .f32⟩

abbrev bufTy : (tb : Table) → Fin (tcTables nBuf tb) → BufTy
  | .hbm, ⟨i, _⟩ => hbmTy i
  | _, _ => ⟨S1024x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v20 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v21 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v22 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v23 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v24 : Ref sig .tc := ⟨.hbm, 145, rfl⟩
abbrev main_v25 : Ref sig .tc := ⟨.hbm, 146, rfl⟩
abbrev main_v26 : Ref sig .tc := ⟨.hbm, 147, rfl⟩
abbrev main_v27 : Ref sig .tc := ⟨.hbm, 148, rfl⟩
abbrev main_v28 : Ref sig .tc := ⟨.hbm, 149, rfl⟩
abbrev main_v29 : Ref sig .tc := ⟨.hbm, 150, rfl⟩
abbrev main_call5_cst : Ref sig .tc := ⟨.hbm, 151, rfl⟩
abbrev main_call5_v0 : Ref sig .tc := ⟨.hbm, 152, rfl⟩
abbrev main_v30 : Ref sig .tc := ⟨.hbm, 153, rfl⟩

abbrev nD : Nat := 1
abbrev τ : Topo := Topo.v7x

variable {F : FTy → Type} [FloatOps F]
-- ==== Proof.Run.Same.lean ====
/- The kernel at the machine's floats and the kernel read over the extended reals are one program text: the same @main and
   the same bodies, at any reading of the floats. -/
module

public import proofs.«01_k».proof.Proof.Gen.Kernel
public import proofs.«01_k».proof.Proof.Gen.KernelIdeal

@[expose] public section

set_option maxRecDepth 65536

noncomputable section

namespace Cert.Same

open Idealize.ShloMosaic

variable {F : FTy → Type} [FloatOps F]

/-- The two @mains are the same program. -/
theorem main_eq : Cert.Kernel.main (F := F) = Cert.KernelIdeal.main (F := F) := rfl

/-- The two grid bodies are the same. -/
theorem bodies_eq : Cert.Kernel.defs₀ (F := F) = Cert.KernelIdeal.defs₀ (F := F) := by
  unfold Cert.Kernel.defs₀ Cert.KernelIdeal.defs₀
  refine congrArg _ ?_
  funext l a
  match l, a with
  | 0, (t, s) => rfl

/-- The two body tables are the same. -/
theorem defs_eq : Cert.Kernel.defs (F := F) = Cert.KernelIdeal.defs (F := F) :=
  congrArg (Pipeline.defs Cert.KernelIdeal.pcfgs) bodies_eq

end Cert.Same

end
-- ==== Proof.Run.Setup.lean ====
/- What the launch of the kernel's one region rests on: @main up to the region, what the region finds in the program's
   arrays, and the frame claim's conclusion read off a run of the region. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- Core `c`'s buffers when the region is entered: the launch memory after the host operations. -/
abbrev V (c : Dev nD) (b : Ref sig .tc) : Buf (Elt F) ((c : Thread nD τ).loc b) := StableHlo.after hostOps0 (fun b => m (c, b)) b

/-- No host operation makes a fresh buffer. -/
theorem hostOps0_fresh : (hostOps0 : List (HloOp τ sig (Elt F))).Forall fun op => op.fresh = ∅ := by
  simp only [List.Forall]; repeat' constructor

set_option maxHeartbeats 800000 in
/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The program's eleven arguments. -/
abbrev args : List (Ref sig .tc) :=
  [main_arg0, main_arg1, main_arg2, main_arg3, main_arg4, main_arg5, main_arg6, main_arg7, main_arg8, main_arg9, main_arg10]

/-- No host operation writes an argument: the region finds each as launched. -/
theorem V_arg (c : Dev nD) (b : Ref sig .tc) (hb : b ∈ args) : V m c b = m ((c : Thread nD τ).loc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.nary_writes, StableHlo.reshape_writes, Finset.mem_singleton]
  fin_cases hb
  all_goals
    repeat' apply And.intro
    all_goals exact StableHlo.devRef_ne_of_ne (by decide)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An argument is no window's array, so a run that ends at the region's post leaves it as launched. -/
theorem arg_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) (b : Ref sig .tc)
    (hb : b ∈ args) : r.2.mem ((c : Thread nD τ).loc b) = m ((c : Thread nD τ).loc b) := by
  refine ((h c).2 b ?_).trans (V_arg m c b hb)
  fin_cases hb
  all_goals exact Pipeline.mem_restRefs_of _ (by decide) (by decide)

end Cert.KernelIdeal.Run

end
-- ==== Proof.Run.Body.lean ====
/- What one grid point of the kernel computes: the fixed contents of its five scratch buffers and the tile it stores,
   as functions of what the point reads, and the run of the kernel body at the first point and at any later one. -/
module

public import proofs.«01_k».proof.Proof.Run.Setup
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- The station rows: the padded station weights and bias against the first 96 rows of the dense weights. -/
def stationRows (x1 : Vec F S8x96 .f32) (x2 : Vec F S96x128 .f32) : Vec F S8x128 .f32 := k0_pay4 x1 x2

/-- The folded tables: row `k` is code `k`'s embedding against its own sixteen rows of the dense weights. -/
def tableRows (x4 : Vec F S80x128 .f32) (x5 : Vec F S80x80 .f32) : Vec F S80x128 .f32 := k0_pay7 (k0_pay5 x5) (k0_pay6 x4)

/-- The selector: column `k` picks the input row that holds the code table row `k` is compared with. -/
def selector : Vec F S24x80 .f32 := k0_pay8

/-- The code numbers: the code that table row `k` stands for, in every row. -/
def codeRow : Vec F S8x80 .f32 := k0_pay1 (iota .tc S8x80 32 [1] iota_S8x80_d1_w32) k0_pay9 k0_pay10

/-- The rows the input is multiplied by: three station rows, the ten rows of the plain features, zeros. -/
def denseRows (x1 : Vec F S8x96 .f32) (x2 : Vec F S96x128 .f32) (x3 : Vec F S10x128 .f32) : Vec F S24x128 .f32 :=
  k0_pay2 (VecWindow.window (s := S8x128) (stationRows x1 x2) ![0, 0] S3x128.size inb_S8x128_S3x128_0_0) x3

/-- The tile a point stores, from its input block and the fixed contents of the scratch buffers. -/
def tile (x0 : Vec F S18x25600 .bf16) (x6 : Vec F S1x128 .f32) (a : Vec F S8x128 .f32) (e : Vec F S80x128 .f32)
    (p : Vec F S24x80 .f32) (q : Vec F S8x80 .f32) (d : Vec F S24x128 .f32) : Vec F S128x200x128 .f32 :=
  k0_pay3 x0 (VecWindow.window (s := S24x80) p ![0, 0] S18x80.size inb_S24x80_S18x80_0_0)
    (VecWindow.window (s := S8x80) q ![0, 0] S1x80.size inb_S8x80_S1x80_0_0)
    (VecWindow.window (s := S24x128) d ![0, 0] S18x128.size inb_S24x128_S18x128_0_0) e
    (VecWindow.window (s := S8x128) a ![3, 0] S1x128.size inb_S8x128_S1x128_3_0) x6

/-! ## Loads and stores of whole buffers and of their leading rows -/

/-- A load of a window after one store of the whole buffer reads the window of what was stored. -/
theorem readCov_window {κ : Kind} {sp : Space} {s : Shape} {e : EltTy} (v : View sig κ sp s e)
    {off off' size : Fin s.rank → ℕ} (inb : ∀ a, off a + s.size a ≤ s.size a) (inb' : ∀ a, off' a + size a ≤ s.size a)
    (w : s.Idx → Elt F e) :
    v.readCov (Val := Elt F) [⟨Rect.unit off s.size inb, w⟩] (Rect.unit off' size inb').toLoadRect
      = VecWindow.window w off' size inb' := by
  unfold View.readCov
  rw [View.readAt_unit v _ inb' rfl inb', View.read_writes_full]

/-- A load of a whole buffer held at contents that read `x` reads `x`. -/
theorem readAt_all {κ : Kind} {sp : Space} {s : Shape} {e : EltTy} {m : Memref sig κ sp s e} (h : m.IsWhole)
    {off : Fin s.rank → ℕ} (inb : ∀ a, off a + s.size a ≤ s.size a) (x : s.Idx → Elt F e) :
    m.view.readAt (Elt F) (Rect.unit off s.size inb).toLoadRect (h.unread x) = x :=
  (View.readAt_full m.view _ inb).trans (h.read_unread x)

/-- A load of a window of a whole buffer held at contents that read `x` reads the window of `x`. -/
theorem readAt_part {κ : Kind} {sp : Space} {s : Shape} {e : EltTy} {m : Memref sig κ sp s e} (h : m.IsWhole)
    {off size : Fin s.rank → ℕ} (inb : ∀ a, off a + size a ≤ s.size a) (x : s.Idx → Elt F e) :
    m.view.readAt (Elt F) (Rect.unit off size inb).toLoadRect (h.unread x) = VecWindow.window x off size inb :=
  (View.readAt_unit m.view _ inb rfl inb).trans (by rw [h.read_unread x])

/-- The branch's condition: the grid coordinate is zero. -/
abbrev first (i : grid0.Coords) : Prop :=
  (Scalar.cmpi .ne (Scalar.extui (Scalar.cmpi .eq (BitVec.ofNat 32 (i 0).val) 0#32)) 0#32) = 1#1

set_option maxHeartbeats 2000000 in
/-- The first point, over any scratch contents: the tile is stored and the scratch buffers hold the fixed contents. -/
theorem body_first (c : Dev nD) (i : grid0.Coords)
    (arg1 : Memref sig .tc .vmem S18x25600 .bf16) (harg1 : arg1.IsWhole)
    (arg2 : Memref sig .tc .vmem S8x96 .f32) (harg2 : arg2.IsWhole)
    (arg3 : Memref sig .tc .vmem S96x128 .f32) (harg3 : arg3.IsWhole)
    (arg4 : Memref sig .tc .vmem S10x128 .f32) (harg4 : arg4.IsWhole)
    (arg5 : Memref sig .tc .vmem S80x128 .f32) (harg5 : arg5.IsWhole)
    (arg6 : Memref sig .tc .vmem S80x80 .f32) (harg6 : arg6.IsWhole)
    (arg7 : Memref sig .tc .vmem S1x128 .f32) (harg7 : arg7.IsWhole)
    (arg8 : Memref sig .tc .vmem S128x200x128 .f32) (harg8 : arg8.IsWhole)
    (arg9 : Memref sig .tc .vmem S8x128 .f32) (harg9 : arg9.IsWhole)
    (arg10 : Memref sig .tc .vmem S80x128 .f32) (harg10 : arg10.IsWhole)
    (arg11 : Memref sig .tc .vmem S24x80 .f32) (harg11 : arg11.IsWhole)
    (arg12 : Memref sig .tc .vmem S8x80 .f32) (harg12 : arg12.IsWhole)
    (arg13 : Memref sig .tc .vmem S24x128 .f32) (harg13 : arg13.IsWhole)
    (hc : first i) (x0 : Vec F S18x25600 .bf16) (x1 : Vec F S8x96 .f32) (x2 : Vec F S96x128 .f32) (x3 : Vec F S10x128 .f32) (x4 : Vec F S80x128 .f32) (x5 : Vec F S80x80 .f32) (x6 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (tile x0 x6 (stationRows x1 x2) (tableRows x4 x5) selector codeRow (denseRows x1 x2 x3)) ∗ owns (c : Thread nD τ) arg9 fullShare (stationRows x1 x2) ∗ owns (c : Thread nD τ) arg10 fullShare (tableRows x4 x5) ∗ owns (c : Thread nD τ) arg11 fullShare selector ∗ owns (c : Thread nD τ) arg12 fullShare codeRow ∗ owns (c : Thread nD τ) arg13 fullShare (denseRows x1 x2 x3)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc)
  sl_step
  have ha : body_first.sl.HS0_1 c arg2 harg2 arg3 harg3 x1 x2
      = [⟨Rect.unit ![0, 0] S8x128.size inb_S8x128_S8x128_0_0, stationRows x1 x2⟩] := by
    unfold body_first.sl.HS0_1 stationRows; rw [readAt_all, readAt_all]
  have he : body_first.sl.HS1_1 c arg5 harg5 arg6 harg6 x4 x5
      = [⟨Rect.unit ![0, 0] S80x128.size inb_S80x128_S80x128_0_0, tableRows x4 x5⟩] := by
    unfold body_first.sl.HS1_1 body_first.sl.r body_first.sl.r_1 tableRows; rw [readAt_all, readAt_all]
  have hp : (body_first.sl.HS2_1 : List (View.Piece (Elt F) S24x80 .f32))
      = [⟨Rect.unit ![0, 0] S24x80.size inb_S24x80_S24x80_0_0, selector⟩] := rfl
  have hq : (body_first.sl.HS3_1 : List (View.Piece (Elt F) S8x80 .f32))
      = [⟨Rect.unit ![0, 0] S8x80.size inb_S8x80_S8x80_0_0, codeRow⟩] := rfl
  have hd : body_first.sl.HS4_1 c arg2 harg2 arg3 harg3 arg4 harg4 arg9 x1 x2 x3
      = [⟨Rect.unit ![0, 0] S24x128.size inb_S24x128_S24x128_0_0, denseRows x1 x2 x3⟩] := by
    unfold body_first.sl.HS4_1 body_first.sl.v127 denseRows
    have h4 : arg4.view.readAt (Elt F) (Rect.unit ![0, 0] ![10, 128] inb_S10x128_S10x128_0_0).toLoadRect (harg4.unread x3) = x3 :=
      readAt_all harg4 _ x3
    rw [ha, readCov_window, h4]
  unfold body_first.sl.v6 body_first.sl.v8 body_first.sl.v13 body_first.sl.v15 body_first.sl.v18
  rw [ha, he, hp, hq, hd]
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    rotate_left
    · iexact H7
    · ipureintro
      refine (View.read_writes_full arg8.view f7 inb_S128x200x128_S128x200x128_0_0_0 _ []).trans ?_
      unfold tile
      congr 1
      · exact readAt_all harg1 _ x0
      · exact readCov_window arg11.view _ inb_S24x80_S18x80_0_0 _
      · exact readCov_window arg12.view _ inb_S8x80_S1x80_0_0 _
      · exact readCov_window arg13.view _ inb_S24x128_S18x128_0_0 _
      · exact View.readCov_full arg10.view _ _ _ _
      · exact readCov_window arg9.view _ inb_S8x128_S1x128_3_0 _
      · exact readAt_all harg7 _ x6
  isplitl [HS0]
  · iexists _; isplitr
    rotate_left
    · iexact HS0
    · ipureintro; exact View.read_writes_full arg9.view fs0 _ _ []
  isplitl [HS1]
  · iexists _; isplitr
    rotate_left
    · iexact HS1
    · ipureintro; exact View.read_writes_full arg10.view fs1 _ _ []
  isplitl [HS2]
  · iexists _; isplitr
    rotate_left
    · iexact HS2
    · ipureintro; exact View.read_writes_full arg11.view fs2 _ _ []
  isplitl [HS3]
  · iexists _; isplitr
    rotate_left
    · iexact HS3
    · ipureintro; exact View.read_writes_full arg12.view fs3 _ _ []
  iexists _; isplitr
  rotate_left
  · iexact HS4
  · ipureintro; exact View.read_writes_full arg13.view fs4 _ _ []

set_option maxHeartbeats 2000000 in
/-- A later point: the tile is stored from the scratch contents, which stay. -/
theorem body_later (c : Dev nD) (i : grid0.Coords)
    (arg1 : Memref sig .tc .vmem S18x25600 .bf16) (harg1 : arg1.IsWhole)
    (arg2 : Memref sig .tc .vmem S8x96 .f32) (harg2 : arg2.IsWhole)
    (arg3 : Memref sig .tc .vmem S96x128 .f32) (harg3 : arg3.IsWhole)
    (arg4 : Memref sig .tc .vmem S10x128 .f32) (harg4 : arg4.IsWhole)
    (arg5 : Memref sig .tc .vmem S80x128 .f32) (harg5 : arg5.IsWhole)
    (arg6 : Memref sig .tc .vmem S80x80 .f32) (harg6 : arg6.IsWhole)
    (arg7 : Memref sig .tc .vmem S1x128 .f32) (harg7 : arg7.IsWhole)
    (arg8 : Memref sig .tc .vmem S128x200x128 .f32) (harg8 : arg8.IsWhole)
    (arg9 : Memref sig .tc .vmem S8x128 .f32) (harg9 : arg9.IsWhole)
    (arg10 : Memref sig .tc .vmem S80x128 .f32) (harg10 : arg10.IsWhole)
    (arg11 : Memref sig .tc .vmem S24x80 .f32) (harg11 : arg11.IsWhole)
    (arg12 : Memref sig .tc .vmem S8x80 .f32) (harg12 : arg12.IsWhole)
    (arg13 : Memref sig .tc .vmem S24x128 .f32) (harg13 : arg13.IsWhole)
    (hc : ¬ first i) (x0 : Vec F S18x25600 .bf16) (x1 : Vec F S8x96 .f32) (x2 : Vec F S96x128 .f32) (x3 : Vec F S10x128 .f32) (x4 : Vec F S80x128 .f32) (x5 : Vec F S80x80 .f32) (x6 : Vec F S1x128 .f32)
    (a : Vec F S8x128 .f32) (e : Vec F S80x128 .f32) (p : Vec F S24x80 .f32) (q : Vec F S8x80 .f32) (d : Vec F S24x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare a ∗ owns (c : Thread nD τ) arg10 fullShare e ∗ owns (c : Thread nD τ) arg11 fullShare p ∗ owns (c : Thread nD τ) arg12 fullShare q ∗ owns (c : Thread nD τ) arg13 fullShare d
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (tile x0 x6 a e p q d) ∗ owns (c : Thread nD τ) arg9 fullShare a ∗ owns (c : Thread nD τ) arg10 fullShare e ∗ owns (c : Thread nD τ) arg11 fullShare p ∗ owns (c : Thread nD τ) arg12 fullShare q ∗ owns (c : Thread nD τ) arg13 fullShare d) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, ⟨%fs2, %hs2, HS2⟩, ⟨%fs3, %hs3, HS3⟩, ⟨%fs4, %hs4, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg9.eq_unread hs0; obtain rfl := harg10.eq_unread hs1; obtain rfl := harg11.eq_unread hs2; obtain rfl := harg12.eq_unread hs3; obtain rfl := harg13.eq_unread hs4
  sl_exec (disch := first | sl_exact hc)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    rotate_left
    · iexact H7
    · ipureintro
      refine (View.read_writes_full arg8.view f7 inb_S128x200x128_S128x200x128_0_0_0 _ []).trans ?_
      unfold tile
      congr 1
      · exact readAt_all harg1 _ x0
      · exact readAt_part harg11 inb_S24x80_S18x80_0_0 p
      · exact readAt_part harg12 inb_S8x80_S1x80_0_0 q
      · exact readAt_part harg13 inb_S24x128_S18x128_0_0 d
      · exact readAt_all harg10 _ e
      · exact readAt_part harg9 inb_S8x128_S1x128_3_0 a
      · exact readAt_all harg7 _ x6
  isplitl [HS0]
  · iexists _; isplitr
    · ipureintro; exact harg9.read_unread _
    · iexact HS0
  isplitl [HS1]
  · iexists _; isplitr
    · ipureintro; exact harg10.read_unread _
    · iexact HS1
  isplitl [HS2]
  · iexists _; isplitr
    · ipureintro; exact harg11.read_unread _
    · iexact HS2
  isplitl [HS3]
  · iexists _; isplitr
    · ipureintro; exact harg12.read_unread _
    · iexact HS3
  iexists _; isplitr
  · ipureintro; exact harg13.read_unread _
  · iexact HS4

end Cert.KernelIdeal.Run

end
-- ==== Proof.Run.Launch.lean ====
/- The run of the whole kernel: every grid point stores its tile, the scratch buffers keep the contents the first point
   gave them, and the program ends with the argument arrays unchanged and every counter at zero. -/
module

public import proofs.«01_k».proof.Proof.Run.Body

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the first point only. -/
theorem first_iff (t : Fin grid0.N) : first (grid0.coords t) ↔ t.val = 0 := by
  have ht : t.val < 8 := Nat.lt_of_lt_of_eq t.isLt N_0
  have e : (grid0.coords t 0).val = t.val / 1 % 8 := Pipeline.Grid.coords_val t 0 (by decide) rfl
  rw [show t.val = 0 ↔ t.val % 8 = 0 by omega]
  simp only [first, e]
  word_cmp

/-- The first grid point. -/
def t0 : Fin cfg0.N := ⟨0, lt_of_lt_of_eq (by decide : 0 < 8) N_0.symm⟩

/-- The fixed contents of the scratch buffers that depend on the arrays. -/
def fixA (c : Dev nD) : Vec F S8x128 .f32 := stationRows (iblk m c 1 t0) (iblk m c 2 t0)
def fixE (c : Dev nD) : Vec F S80x128 .f32 := tableRows (iblk m c 4 t0) (iblk m c 5 t0)
def fixD (c : Dev nD) : Vec F S24x128 .f32 := denseRows (iblk m c 1 t0) (iblk m c 2 t0) (iblk m c 3 t0)

/-- The tile that point `t` stores. -/
def tileAt (c : Dev nD) (t : Fin cfg0.N) : Vec F S128x200x128 .f32 :=
  tile (iblk m c 0 t) (iblk m c 6 t) (fixA m c) (fixE m c) selector codeRow (fixD m c)

/-- The buffers a point's body is called with. -/
abbrev stg0 (t : Fin cfg0.N) : Memref sig .tc .vmem S18x25600 .bf16 := win0_0.stage (cfg0.slots t 0)
abbrev stg1 (t : Fin cfg0.N) : Memref sig .tc .vmem S8x96 .f32 := win0_1.stage (cfg0.slots t 1)
abbrev stg2 (t : Fin cfg0.N) : Memref sig .tc .vmem S96x128 .f32 := win0_2.stage (cfg0.slots t 2)
abbrev stg3 (t : Fin cfg0.N) : Memref sig .tc .vmem S10x128 .f32 := win0_3.stage (cfg0.slots t 3)
abbrev stg4 (t : Fin cfg0.N) : Memref sig .tc .vmem S80x128 .f32 := win0_4.stage (cfg0.slots t 4)
abbrev stg5 (t : Fin cfg0.N) : Memref sig .tc .vmem S80x80 .f32 := win0_5.stage (cfg0.slots t 5)
abbrev stg6 (t : Fin cfg0.N) : Memref sig .tc .vmem S1x128 .f32 := win0_6.stage (cfg0.slots t 6)
abbrev stg7 (t : Fin cfg0.N) : Memref sig .tc .vmem S128x200x128 .f32 := win0_7.stage (cfg0.slots t 7)
abbrev scr0 : Memref sig .tc .vmem S8x128 .f32 := Memref.whole cc0_scratch0
abbrev scr1 : Memref sig .tc .vmem S80x128 .f32 := Memref.whole cc0_scratch1
abbrev scr2 : Memref sig .tc .vmem S24x80 .f32 := Memref.whole cc0_scratch2
abbrev scr3 : Memref sig .tc .vmem S8x80 .f32 := Memref.whole cc0_scratch3
abbrev scr4 : Memref sig .tc .vmem S24x128 .f32 := Memref.whole cc0_scratch4

/-- The invariant before the first point, the scratch buffers one by one. -/
theorem start_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The invariant after the first point: the scratch buffers at their fixed contents. -/
def Held (c : Dev nD) : sProp 𝕄 := iprop(iprop(owns (c : Thread nD τ) scr0 fullShare (fixA m c) ∗ owns (c : Thread nD τ) scr1 fullShare (fixE m c) ∗ owns (c : Thread nD τ) scr2 fullShare selector ∗ owns (c : Thread nD τ) scr3 fullShare codeRow ∗ owns (c : Thread nD τ) scr4 fullShare (fixD m c)) ∗ (∃ r, prngReg c r))

/-- The invariant before position `n`. -/
def Inv (c : Dev nD) : ℕ → sProp 𝕄
  | 0 => Pipeline.ΦA spec0 c
  | _ + 1 => Held m c

theorem Inv_pos (c : Dev nD) (n : ℕ) (h : n ≠ 0) : Inv m c n = Held m c := by
  cases n with
  | zero => exact absurd rfl h
  | succ n => rfl

/-- What the pipeline is run with: the arrays as the region finds them, each input buffer left at its block, the output
    buffer at the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileAt m c t
  Φ t := Inv m c t.val
  q _ := fullShare
  owed _ := 0

theorem A_eq (c : Dev nD) (w : Fin cfg0.W) : (dats m 0 c).A w = V m c (Pipeline.arrRef spec0 w) := by dsimp only [dats]

/-- The body leaves the output buffer at the point's tile. -/
theorem left_out (c : Dev nD) (t : Fin cfg0.N) : (dats m 0 c).after 7 t = tileAt m c t := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t))

set_option maxHeartbeats 3200000 in
/-- The body at any point of the grid. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Held m c from rfl, show (dats m 0 c).Φ t.castSucc = Inv m c t.val from rfl]
  have b0 : ∀ d, (dats m 0 c).before 0 t d = iblk m c 0 t :=
    (dats m 0 c).before_in_eq_fetched 0 rfl (fun _ => rfl) (fun _ _ _ => rfl) (fun _ => rfl) t
  have b1 : ∀ d, (dats m 0 c).before 1 t d = iblk m c 1 t :=
    (dats m 0 c).before_in_eq_fetched 1 rfl (fun _ => rfl) (fun _ _ _ => rfl) (fun _ => rfl) t
  have b2 : ∀ d, (dats m 0 c).before 2 t d = iblk m c 2 t :=
    (dats m 0 c).before_in_eq_fetched 2 rfl (fun _ => rfl) (fun _ _ _ => rfl) (fun _ => rfl) t
  have b3 : ∀ d, (dats m 0 c).before 3 t d = iblk m c 3 t :=
    (dats m 0 c).before_in_eq_fetched 3 rfl (fun _ => rfl) (fun _ _ _ => rfl) (fun _ => rfl) t
  have b4 : ∀ d, (dats m 0 c).before 4 t d = iblk m c 4 t :=
    (dats m 0 c).before_in_eq_fetched 4 rfl (fun _ => rfl) (fun _ _ _ => rfl) (fun _ => rfl) t
  have b5 : ∀ d, (dats m 0 c).before 5 t d = iblk m c 5 t :=
    (dats m 0 c).before_in_eq_fetched 5 rfl (fun _ => rfl) (fun _ _ _ => rfl) (fun _ => rfl) t
  have b6 : ∀ d, (dats m 0 c).before 6 t d = iblk m c 6 t :=
    (dats m 0 c).before_in_eq_fetched 6 rfl (fun _ => rfl) (fun _ _ _ => rfl) (fun _ => rfl) t
  simp only [b0, b1, b2, b3, b4, b5, b6]
  rw [left_out]
  by_cases hz : t.val = 0
  · obtain rfl : t = t0 := Fin.ext hz
    rw [show Inv m c (t0 : Fin cfg0.N).val = Pipeline.ΦA spec0 c from rfl, start_eq]
    unfold Held tileAt fixA fixE fixD
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t0) _ _ _ _ _ _ _ _ _ _ _ _ _ _ _ _ _ _ _ _ _ _ _ _ _ _ ((first_iff t0).mpr rfl) (iblk m c 0 t0) (iblk m c 1 t0) (iblk m c 2 t0) (iblk m c 3 t0) (iblk m c 4 t0) (iblk m c 5 t0) (iblk m c 6 t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Inv_pos m c _ hz]
    unfold Held tileAt
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ _ _ _ _ _ _ _ _ (fun h => hz ((first_iff t).mp h)) (iblk m c 0 t) (iblk m c 1 t) (iblk m c 2 t) (iblk m c 3 t) (iblk m c 4 t) (iblk m c 5 t) (iblk m c 6 t) (fixA m c) (fixE m c) selector codeRow (fixD m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body at the point's buffers. -/
theorem row_eq (t : Fin cfg0.N) : defs₀ (F := F) .tc cfg0.body (cfg0.bodyArgs t (cfg0.slots t)) = bodyAt0 t := by
  unfold defs₀; rw [Defs.onTc_tc]

/-- What the pipeline asks of the body, at every point. -/
theorem obligation (c : Dev nD) : BodyObligation (dats (F := F) m 0 c) (defs₀ (F := F)) Variants.none () Set.univ := fun t => by
  rw [bigSep_W0, bigSep_W0, row_eq]
  exact triple_restated (body_point m c t) rfl .rfl fun _ => .rfl

/-- The launch's invariant is the one before the first point. -/
theorem start_in (c : Dev nD) : Pipeline.ΦA spec0 c ⊢ (dats m 0 c).Φ 0 := Idealize.SL.BI.Entails.refl _

/-- The invariant after the last point gives the launch's back. -/
theorem end_out (c : Dev nD) : (dats m 0 c).Φ (Fin.last cfg0.N) ⊢ Pipeline.ΦA spec0 c := by
  have hN : (Fin.last cfg0.N).val ≠ 0 := by rw [Fin.val_last]; have : cfg0.N = 8 := N_0; omega
  rw [show (dats m 0 c).Φ (Fin.last cfg0.N) = Inv m c (Fin.last cfg0.N).val from rfl, Inv_pos m c _ hN, start_eq]
  unfold Held
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- Every weakly fair run of @main ends, with every array of the pipeline at what its points stored, every other array as
    the region found it, and every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := start_in m) (hout := end_out m)

/-- The frame: the arguments end as launched and every counter is at zero. -/
theorem frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    have k (b : Ref sig .tc) (hb : b ∈ args) := arg_kept m (dats m) r h.1 c b hb
    ⟨k main_arg0 (by simp [args]), k main_arg1 (by simp [args]), k main_arg2 (by simp [args]), k main_arg3 (by simp [args]), k main_arg4 (by simp [args]), k main_arg5 (by simp [args]), k main_arg6 (by simp [args]), k main_arg7 (by simp [args]), k main_arg8 (by simp [args]), k main_arg9 (by simp [args]), k main_arg10 (by simp [args])⟩, h.2⟩) (run m ρ)

end Cert.KernelIdeal.Run

end
-- ==== Proof.Run.Final.lean ====
/- What the kernel's result array holds after the run, and where in its array each block of a point's input lies. -/
module

public import proofs.«01_k».proof.Proof.Run.Launch
public import Idealize.ShloMosaic.Lib.Pointwise
public import Idealize.ShloMosaic.Lib.Pipeline.ValueKit

@[expose] public section

set_option maxRecDepth 8192

noncomputable section

namespace Cert.KernelIdeal.Run

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The column blocks go along the second axis, the tiles along the first. -/
theorem index_point : ∀ t : Fin grid0.N, win0_0.index t = ![0, t.val] ∧ win0_7.index t = ![t.val, 0, 0] := by decide +kernel

/-- The other windows are always at the origin. -/
theorem index_whole : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] := by decide +kernel

/-- The grid has eight points. -/
theorem points : cfg0.N = 8 := N_0

/-- The element of the result array at `i`: one of the tile of the point that has the row of `i`. -/
def result : Vec F S1024x200x128 .f32 := fun i =>
  tileAt m c ⟨(i 0).val / 128, by have h : (i 0).val < 1024 := (i 0).isLt; rw [points]; omega⟩
    (ix3 ⟨(i 0).val % 128, by omega⟩ (i 1) (i 2))

/-- After the run the result array holds `result`. -/
theorem final : (dats m 0 c).arrAt 7 cfg0.N = result m c := by
  refine (dats m 0 c).arrAt_eq_of_covers 7 _ (by decide +kernel) fun t hf y => ?_
  rw [left_out]
  have e := (index_point t).2
  have p0 : (((win0_7.rect t).emb y) 0 : ℕ) = t.val * 128 + (y 0).val := (Pipeline.Window.rect_emb_val win0_7 t y 0 rfl).trans (by rw [e]; rfl)
  have p1 : (((win0_7.rect t).emb y) 1 : ℕ) = (y 1).val := (Pipeline.Window.rect_emb_val win0_7 t y 1 rfl).trans (by rw [e]; simp)
  have p2 : (((win0_7.rect t).emb y) 2 : ℕ) = (y 2).val := (Pipeline.Window.rect_emb_val win0_7 t y 2 rfl).trans (by rw [e]; simp)
  show tileAt m c t y = result m c ((win0_7.rect t).emb y)
  have hy : (y 0).val < 128 := (y 0).isLt
  unfold result
  congr 1
  · congr 1
    exact Fin.ext (by show t.val = _ / 128; rw [p0]; omega)
  · funext a
    apply Fin.ext
    match a with
    | ⟨0, _⟩ => show (y 0).val = _ % 128; rw [p0]; omega
    | ⟨1, _⟩ => exact p1.symm
    | ⟨2, _⟩ => exact p2.symm

/-- A point's input block is its 25600 columns. -/
theorem block_columns (t : Fin cfg0.N) (r : Fin 18) (q : Fin 25600) :
    (iblk m c 0 t : Vec F S18x25600 .bf16) (ix2 r q) = (V m c main_call0_v4 : Vec F S18x204800 .bf16) (ix2 r ⟨t.val * 25600 + q.val, by have := t.isLt; have := points; omega⟩) := by
  have e := (index_point t).1
  show (V m c main_call0_v4 : Vec F S18x204800 .bf16) ((win0_0.rect t).emb (ix2 r q)) = _
  congr 1
  funext a
  apply Fin.ext
  refine (Pipeline.Window.rect_emb_val win0_0 t (ix2 r q) a rfl).trans ?_
  rw [e]
  match a with
  | ⟨0, _⟩ => simp
  | ⟨1, _⟩ => simp

/-- A block at the origin places each element at its own coordinates. -/
theorem emb_origin (w : Pipeline.Window sig grid0) (t : Fin grid0.N) (h : ∀ a, w.index t a = 0)
    (y : (w.xblock (grid0.coords t)).Idx) (a : Fin w.shape.rank) : ((w.rect t).emb y a : ℕ) = y a :=
  w.rect_emb_val_of_index_zero t a (h a) y

/-- Every point reads all of the station weights. -/
theorem block_weights (t : Fin cfg0.N) : (iblk m c 1 t : Vec F S8x96 .f32) = (V m c main_call0_v7 : Vec F S8x96 .f32) :=
  funext fun y => congrArg (V m c main_call0_v7 : Vec F S8x96 .f32)
    (funext fun a => Fin.ext (emb_origin win0_1 t (by rw [(index_whole t).1]; decide) y a))

/-- Every point reads all of the first 96 rows of the dense weights. -/
theorem block_head (t : Fin cfg0.N) : (iblk m c 2 t : Vec F S96x128 .f32) = (V m c main_call0_v8 : Vec F S96x128 .f32) :=
  funext fun y => congrArg (V m c main_call0_v8 : Vec F S96x128 .f32)
    (funext fun a => Fin.ext (emb_origin win0_2 t (by rw [(index_whole t).2.1]; decide) y a))

/-- Every point reads all of the next ten rows. -/
theorem block_middle (t : Fin cfg0.N) : (iblk m c 3 t : Vec F S10x128 .f32) = (V m c main_call0_v9 : Vec F S10x128 .f32) :=
  funext fun y => congrArg (V m c main_call0_v9 : Vec F S10x128 .f32)
    (funext fun a => Fin.ext (emb_origin win0_3 t (by rw [(index_whole t).2.2.1]; decide) y a))

/-- Every point reads all of the last eighty rows. -/
theorem block_tail (t : Fin cfg0.N) : (iblk m c 4 t : Vec F S80x128 .f32) = (V m c main_call0_v10 : Vec F S80x128 .f32) :=
  funext fun y => congrArg (V m c main_call0_v10 : Vec F S80x128 .f32)
    (funext fun a => Fin.ext (emb_origin win0_4 t (by rw [(index_whole t).2.2.2.1]; decide) y a))

/-- Every point reads all of the tables. -/
theorem block_tables (t : Fin cfg0.N) : (iblk m c 5 t : Vec F S80x80 .f32) = (V m c main_call0_v14 : Vec F S80x80 .f32) :=
  funext fun y => congrArg (V m c main_call0_v14 : Vec F S80x80 .f32)
    (funext fun a => Fin.ext (emb_origin win0_5 t (by rw [(index_whole t).2.2.2.2.1]; decide) y a))

/-- Every point reads all of the dense bias. -/
theorem block_bias (t : Fin cfg0.N) : (iblk m c 6 t : Vec F S1x128 .f32) = (V m c main_call0_v15 : Vec F S1x128 .f32) :=
  funext fun y => congrArg (V m c main_call0_v15 : Vec F S1x128 .f32)
    (funext fun a => Fin.ext (emb_origin win0_6 t (by rw [(index_whole t).2.2.2.2.2]; decide) y a))

end Cert.KernelIdeal.Run

end
-- ==== Proof.Value.Math.lean ====
/- The equation between the two computations at one element of the result, over plain numbers: folding the station layer
   and the tables into the dense layer gives what the layers give one after the other. -/
module

public import Mathlib.Data.EReal.Operations
public import Mathlib.Algebra.BigOperators.Fin
public import Mathlib.Logic.Equiv.Fin.Basic
public import Mathlib.Tactic.FinCases
public import Mathlib.Tactic.Ring
public import Mathlib.Tactic.NormNum

@[expose] public section

noncomputable section

namespace Cert.Math

open Finset

/-! ## The five tables in one -/

/-- How many rows each table has. -/
def rows (r : Fin 5) : ℕ := ![26, 18, 25, 8, 3] r

/-- Where each table begins when the five stand one below the other. -/
def start (r : Fin 5) : ℕ := ![0, 26, 44, 69, 77] r

/-- The table that a row of the five together belongs to. -/
def part (k : Fin 80) : Fin 5 := if k.val < 26 then 0 else if k.val < 44 then 1 else if k.val < 69 then 2 else if k.val < 77 then 3 else 4

/-- A table ends where the next begins, the last at row 80. -/
theorem start_add_lt (r : Fin 5) (a : ℕ) (h : a < rows r) : start r + a < 80 := by
  fin_cases r <;> simp_all [start, rows] <;> omega

/-- A row belongs to a table exactly when it lies between that table's first row and its last. -/
theorem part_iff : ∀ (k : Fin 80) (r : Fin 5), part k = r ↔ start r ≤ k.val ∧ k.val < start r + rows r := by decide

/-- A row stands for code `a` of its table exactly when it is row `a` of that table. -/
theorem code_iff (a : Fin 5 → ℕ) (ha : ∀ r, a r < rows r) (k : Fin 80) (r : Fin 5) :
    (part k = r ∧ k.val - start (part k) = a r) ↔ k = ⟨start r + a r, start_add_lt r _ (ha r)⟩ := by
  have h := ha r
  constructor
  · rintro ⟨h1, h2⟩
    have h3 := (part_iff k r).1 h1
    rw [h1] at h2
    exact Fin.ext (by show k.val = start r + a r; omega)
  · intro e
    have e' : k.val = start r + a r := congrArg Fin.val e
    have h1 : part k = r := (part_iff k r).2 (by omega)
    exact ⟨h1, by rw [h1]; omega⟩

/-- Of all rows, those that stand for the codes of their own tables are five, one per table. -/
theorem sum_codes (a : Fin 5 → ℕ) (ha : ∀ r, a r < rows r) (E : Fin 80 → EReal) :
    ∑ k, (if k.val - start (part k) = a (part k) then E k else 0) = ∑ r, E ⟨start r + a r, start_add_lt r _ (ha r)⟩ := by
  have h1 : ∀ k : Fin 80, (if k.val - start (part k) = a (part k) then E k else 0)
      = ∑ r : Fin 5, if part k = r then (if k.val - start (part k) = a r then E k else 0) else 0 := fun k => by
    rw [Finset.sum_ite_eq]; simp
  simp only [h1]
  rw [Finset.sum_comm]
  refine Finset.sum_congr rfl fun r _ => ?_
  have h2 : ∀ k : Fin 80, (if part k = r then (if k.val - start (part k) = a r then E k else 0) else 0)
      = if k = ⟨start r + a r, start_add_lt r _ (ha r)⟩ then E k else 0 := fun k => by
    rw [← ite_and]; simp only [code_iff a ha k r]
  simp only [h2]
  rw [Finset.sum_ite_eq']; simp

/-! ## Sums cut in pieces -/

/-- A sum over eighty, as five sums over sixteen. -/
theorem sum_eighty {M : Type} [AddCommMonoid M] (f : Fin 80 → M) : ∑ k, f k = ∑ r : Fin 5, ∑ t : Fin 16, f ⟨16 * r.val + t.val, by omega⟩ := by
  have e := (finProdFinEquiv (m := 5) (n := 16)).sum_comp (fun k : Fin (5 * 16) => f k)
  rw [Fintype.sum_prod_type] at e
  refine e.symm.trans (Finset.sum_congr rfl fun r _ => Finset.sum_congr rfl fun t _ => congrArg f (Fin.ext ?_))
  simp [finProdFinEquiv]; omega

/-- A sum over the dense layer's 186 inputs: the 96 of the station layer, the ten features, the five tables' sixteen. -/
theorem sum_inputs {M : Type} [AddCommMonoid M] (f : Fin 186 → M) :
    ∑ k, f k = ∑ d : Fin 96, f ⟨d.val, by omega⟩
      + (∑ q : Fin 10, f ⟨96 + q.val, by omega⟩ + ∑ r : Fin 5, ∑ t : Fin 16, f ⟨106 + (16 * r.val + t.val), by omega⟩) := by
  have e1 := Fin.sum_univ_add (a := 96) (b := 90) f
  have e2 := Fin.sum_univ_add (a := 10) (b := 80) (fun k => f (Fin.natAdd 96 k))
  rw [sum_eighty (fun k => f (Fin.natAdd 96 (Fin.natAdd 10 k)))] at e2
  exact e1.trans (congrArg _ e2)

/-- A sum over the input's eighteen rows: three station values, then the fifteen features. -/
theorem sum_columns {M : Type} [AddCommMonoid M] (f : Fin 18 → M) :
    ∑ k, f k = ∑ c : Fin 3, f ⟨c.val, by omega⟩ + (∑ q : Fin 10, f ⟨3 + q.val, by omega⟩ + ∑ t : Fin 5, f ⟨13 + t.val, by omega⟩) := by
  have e1 := Fin.sum_univ_add (a := 3) (b := 15) f
  have e2 := Fin.sum_univ_add (a := 10) (b := 5) (fun k => f (Fin.natAdd 3 k))
  exact e1.trans (congrArg _ e2)

/-! ## The station layer folded -/

/-- Multiplication by a real number distributes over a sum with a real summand, whatever the other summand. -/
theorem add_mul_real (r v : ℝ) (b : EReal) : ((r : EReal) + b) * v = r * v + b * v := by
  induction b with
  | coe b => norm_cast; ring
  | top =>
    rw [EReal.coe_add_top]
    rcases lt_trichotomy v 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy v 0 with h | h | h
    · rw [EReal.bot_mul_coe_of_neg h, ← EReal.coe_mul, EReal.coe_add_top]
    · subst h; simp
    · rw [EReal.bot_mul_coe_of_pos h, ← EReal.coe_mul, EReal.add_bot]

/-- A finite sum of real numbers, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The station layer and then the dense layer is the dense layer's fold of the station weights and of the station bias:
    station values, station weights and dense weights finite, the bias any. -/
theorem station_fold (s : Fin 3 → EReal) (w : Fin 3 → Fin 96 → EReal) (b v : Fin 96 → EReal)
    (hs : ∀ c, ∃ x : ℝ, s c = x) (hw : ∀ c d, ∃ x : ℝ, w c d = x) (hv : ∀ d, ∃ x : ℝ, v d = x) :
    ∑ d, (∑ c, s c * w c d + b d) * v d = ∑ c, s c * (∑ d, w c d * v d) + ∑ d, b d * v d := by
  choose s' hs using hs
  choose w' hw using hw
  choose v' hv using hv
  simp only [hs, hw, hv]
  have h1 : ∀ d, (∑ c, (s' c : EReal) * w' c d + b d) * (v' d : EReal) = ((∑ c, s' c * w' c d) * v' d : ℝ) + b d * v' d := fun d => by
    rw [EReal.coe_mul, ← add_mul_real, coe_sum]; simp only [EReal.coe_mul]
  simp only [h1]
  rw [Finset.sum_add_distrib, ← coe_sum]
  congr 1
  have h2 : ∀ c, (s' c : EReal) * ∑ d, (w' c d : EReal) * v' d = ((s' c * ∑ d, w' c d * v' d : ℝ) : EReal) := fun c => by
    rw [EReal.coe_mul, coe_sum]; simp only [EReal.coe_mul]
  simp only [h2]
  rw [← coe_sum]
  congr 1
  simp only [Finset.sum_mul, Finset.mul_sum]
  rw [Finset.sum_comm]
  exact Finset.sum_congr rfl fun c _ => Finset.sum_congr rfl fun d _ => by ring

/-! ## The equation -/

section

variable (s : Fin 3 → EReal) (f : Fin 15 → EReal) (w : Fin 3 → Fin 96 → EReal) (b : Fin 96 → EReal) (T : Fin 80 → Fin 16 → EReal)
  (v : Fin 186 → EReal) (b0 : EReal)

/-- What the reference computes at an element, the codes given by their table rows `a`: the dense layer over the
    station layer, the ten features and the five table rows, with its bias, and nothing below zero. -/
def plain (a : Fin 5 → Fin 80) : EReal :=
  max ((∑ d : Fin 96, (∑ c, s c * w c d + b d) * v ⟨d.val, by omega⟩
    + (∑ q : Fin 10, f ⟨q.val, by omega⟩ * v ⟨96 + q.val, by omega⟩
      + ∑ r : Fin 5, ∑ t : Fin 16, T (a r) t * v ⟨106 + (16 * r.val + t.val), by omega⟩)) + b0) 0

/-- What the kernel computes at an element: the folded station weights, the ten features' weights, the folded table rows
    that the codes select by comparison, the folded station bias and the dense bias, and nothing below zero. -/
def folded : EReal :=
  max ((((∑ c, s c * (∑ d : Fin 96, w c d * v ⟨d.val, by omega⟩) + ∑ q : Fin 10, f ⟨q.val, by omega⟩ * v ⟨96 + q.val, by omega⟩)
    + ∑ k : Fin 80, (if f ⟨10 + (part k).val, by omega⟩ = ((k.val - start (part k) : ℕ) : ℝ) then 1 else 0)
        * ∑ t : Fin 16, T k t * v ⟨106 + (16 * (part k).val + t.val), by omega⟩)
    + ∑ d : Fin 96, b d * v ⟨d.val, by omega⟩) + b0) 0

/-- The two agree where the five code features hold codes of their tables and the station values, the station weights and
    the dense layer's first 96 weights are finite. -/
theorem folded_eq_plain (hs : ∀ c, ∃ x : ℝ, s c = x) (hw : ∀ c d, ∃ x : ℝ, w c d = x)
    (hv : ∀ d : Fin 96, ∃ x : ℝ, v ⟨d.val, by omega⟩ = x) (a : Fin 5 → ℕ) (ha : ∀ r, a r < rows r)
    (hf : ∀ r : Fin 5, f ⟨10 + r.val, by omega⟩ = ((a r : ℕ) : ℝ)) :
    folded s f w b T v b0 = plain s f w b T v b0 fun r => ⟨start r + a r, start_add_lt r _ (ha r)⟩ := by
  have h1 : ∀ k : Fin 80, (if f ⟨10 + (part k).val, by omega⟩ = (((k.val - start (part k) : ℕ) : ℝ) : EReal) then (1 : EReal) else 0)
        * ∑ t : Fin 16, T k t * v ⟨106 + (16 * (part k).val + t.val), by omega⟩
      = if k.val - start (part k) = a (part k) then ∑ t : Fin 16, T k t * v ⟨106 + (16 * (part k).val + t.val), by omega⟩ else 0 := fun k => by
    rw [hf (part k)]
    by_cases h : k.val - start (part k) = a (part k)
    · rw [if_pos h, if_pos (by rw [h]), one_mul]
    · rw [if_neg h, if_neg (by intro e; exact h (by exact_mod_cast e.symm)), zero_mul]
  unfold folded plain
  simp only [h1]
  rw [sum_codes a ha, station_fold s w b (fun d => v ⟨d.val, by omega⟩) hs hw hv]
  have h2 : ∀ r : Fin 5, part ⟨start r + a r, start_add_lt r _ (ha r)⟩ = r := fun r => ((code_iff a ha _ r).2 rfl).1
  simp only [h2]
  congr 2
  ac_rfl

end

end Cert.Math

end
-- ==== Proof.Value.Tile.lean ====
/- What one grid point computes, at one element of its tile and over the extended reals: the folded form of
   Value/Math.lean, of the point's input columns and the arrays it reads. -/
module

public import proofs.«01_k».proof.Proof.Run.Body
public import proofs.«01_k».proof.Proof.Value.Math
public import Idealize.ShloMosaic.Lib.Pointwise

@[expose] public section

set_option maxRecDepth 8192

noncomputable section

namespace Cert.KernelIdeal.Tile

open Cert.KernelIdeal Cert.KernelIdeal.Gen Cert.KernelIdeal.Run Cert.Math
open Idealize.ShloMosaic Idealize.ShloMosaic.TcCoe

/-! ## The fixed contents of the scratch buffers -/

/-- A word of zero or one, read as a number. -/
theorem word_value (P : Prop) [Decidable P] : (((if P then 1#32 else 0#32 : BitVec 32).toInt : ℝ) : EReal) = if P then 1 else 0 := by
  split_ifs <;> simp

/-- The selector has a one in column `k` at the input row of the feature that holds the code of `k`'s table. -/
theorem selector_apply (r : Fin 24) (k : Fin 80) :
    (selector (F := Ideal) (ix2 r k) : EReal) = if r.val = 13 + (part k).val then 1 else 0 := by
  pointwise [selector, k0_pay8]
  rw [← word_value]
  refine congrArg (fun w : BitVec 32 => ((w.toInt : ℝ) : EReal)) ?_
  revert r k
  decide +kernel

/-- The code numbers: row `k` of the joined tables stands for code `k` less the first row of its table. -/
theorem codeRow_apply (r : Fin 8) (k : Fin 80) :
    (codeRow (F := Ideal) (ix2 r k) : EReal) = ((k.val - start (part k) : ℕ) : ℝ) := by
  pointwise [codeRow, k0_pay9, k0_pay10, k0_pay1]
  refine Eq.trans (b := ((((k.val - start (part k) : ℕ) : ℤ) : ℝ) : EReal)) (congrArg (fun z : ℤ => ((z : ℝ) : EReal)) ?_) (by norm_cast)
  revert k
  decide +kernel

/-- The kernel's count of the tables that end at or before row `k` is the table that the row belongs to. -/
theorem part_word : ∀ k : Fin 80,
    IntOp.addi (IntOp.addi (IntOp.addi (BitVec.setWidth 32 (IntOp.cmpi .sge (BitVec.ofNat 32 k.val) 26#32))
      (BitVec.setWidth 32 (IntOp.cmpi .sge (BitVec.ofNat 32 k.val) 44#32)))
      (BitVec.setWidth 32 (IntOp.cmpi .sge (BitVec.ofNat 32 k.val) 69#32)))
      (BitVec.setWidth 32 (IntOp.cmpi .sge (BitVec.ofNat 32 k.val) 77#32)) = BitVec.ofNat 32 (part k).val := by
  decide +kernel

/-- The kernel's test that a column lies among a table's own sixteen. -/
theorem own_columns : ∀ (p : Fin 5) (x : Fin 80),
    IntOp.andi (IntOp.cmpi .sge (BitVec.ofNat 32 x.val) (IntOp.muli (16#32) (BitVec.ofNat 32 p.val)))
      (IntOp.cmpi .slt (BitVec.ofNat 32 x.val) (IntOp.addi (IntOp.muli (16#32) (BitVec.ofNat 32 p.val)) 16#32))
      = BitVec.ofBool (decide (x.val / 16 = p.val)) := by
  decide +kernel

/-- A folded table row keeps the products of its own sixteen columns. -/
theorem tableRows_apply (x4 : Vec Ideal S80x128 .f32) (x5 : Vec Ideal S80x80 .f32) (k : Fin 80) (h : Fin 128) :
    (tableRows x4 x5 (ix2 k h) : EReal)
      = ∑ t : Fin 16, x5 (ix2 k ⟨16 * (part k).val + t.val, by omega⟩) * x4 (ix2 ⟨16 * (part k).val + t.val, by omega⟩ h) := by
  pointwise [tableRows, k0_pay5, k0_pay6, k0_pay7]
  simp only [part_word, own_columns]
  rw [sum_eighty, Finset.sum_eq_single (part k)]
  · refine Finset.sum_congr rfl fun t _ => ?_
    rw [show decide ((16 * (part k).val + t.val) / 16 = (part k).val) = true from decide_eq_true (by omega)]
    rfl
  · intro r _ hr
    refine Finset.sum_eq_zero fun t _ => ?_
    rw [show decide ((16 * r.val + t.val) / 16 = (part k).val) = false from decide_eq_false (by
      have : r.val ≠ (part k).val := fun e => hr (Fin.ext e)
      omega)]
    rfl
  · intro hk; exact absurd (Finset.mem_univ _) hk

/-- The folded station rows. -/
theorem stationRows_apply (x1 : Vec Ideal S8x96 .f32) (x2 : Vec Ideal S96x128 .f32) (r : Fin 8) (h : Fin 128) :
    (stationRows x1 x2 (ix2 r h) : EReal) = ∑ d : Fin 96, x1 (ix2 r d) * x2 (ix2 d h) := by
  pointwise [stationRows, k0_pay4]

/-- The rows the input is multiplied by: the folded station weights, the ten features' weights, zeros. -/
theorem denseRows_apply (x1 : Vec Ideal S8x96 .f32) (x2 : Vec Ideal S96x128 .f32) (x3 : Vec Ideal S10x128 .f32) (r : Fin 24) (h : Fin 128) :
    (denseRows x1 x2 x3 (ix2 r h) : EReal)
      = if h1 : r.val < 3 then stationRows x1 x2 (ix2 ⟨r.val, by omega⟩ h) else if h2 : r.val - 3 < 10 then x3 (ix2 ⟨r.val - 3, h2⟩ h) else 0 := by
  pointwise [denseRows, k0_pay2, VecWindow.window_eq_ld]

/-! ## The tile -/

/-- An element of the tile is the folded computation on its position's input column. -/
theorem tile_apply (s : Fin 3 → EReal) (f : Fin 15 → EReal) (w : Fin 3 → Fin 96 → EReal) (b : Fin 96 → EReal) (T : Fin 80 → Fin 16 → EReal)
    (v : Fin 186 → EReal) (b0 : EReal) (x0 : Vec Ideal S18x25600 .bf16) (x1 : Vec Ideal S8x96 .f32) (x2 : Vec Ideal S96x128 .f32)
    (x3 : Vec Ideal S10x128 .f32) (x4 : Vec Ideal S80x128 .f32) (x5 : Vec Ideal S80x80 .f32) (x6 : Vec Ideal S1x128 .f32)
    (i : Fin 128) (j : Fin 200) (h : Fin 128)
    (h0 : ∀ r : Fin 18, (x0 (ix2 r ⟨i.val * 200 + j.val, by omega⟩) : EReal) = if hr : r.val < 3 then s ⟨r.val, hr⟩ else f ⟨r.val - 3, by omega⟩)
    (h1 : ∀ (r : Fin 8) (d : Fin 96), (x1 (ix2 r d) : EReal) = if hr : r.val < 3 then w ⟨r.val, hr⟩ d else if r.val - 3 < 1 then b d else 0)
    (h2 : ∀ d : Fin 96, (x2 (ix2 d h) : EReal) = v ⟨d.val, by omega⟩)
    (h3 : ∀ q : Fin 10, (x3 (ix2 q h) : EReal) = v ⟨96 + q.val, by omega⟩)
    (h4 : ∀ k : Fin 80, (x4 (ix2 k h) : EReal) = v ⟨106 + k.val, by omega⟩)
    (h5 : ∀ k d : Fin 80, (x5 (ix2 k d) : EReal) = T k ⟨d.val % 16, by omega⟩)
    (h6 : (x6 (ix2 0 h) : EReal) = b0) :
    (tile x0 x6 (stationRows x1 x2) (tableRows x4 x5) selector codeRow (denseRows x1 x2 x3) (ix3 i j h) : EReal) = folded s f w b T v b0 := by
  pointwise [tile, k0_pay3, VecWindow.window_eq_ld]
  have hy : ∑ r : Fin 18, (x0 (ix2 r ⟨i.val * 200 + j.val, by omega⟩) : EReal) * denseRows x1 x2 x3 (ix2 ⟨r.val, by omega⟩ h)
      = ∑ c, s c * (∑ d : Fin 96, w c d * v ⟨d.val, by omega⟩) + ∑ q : Fin 10, f ⟨q.val, by omega⟩ * v ⟨96 + q.val, by omega⟩ := by
    rw [sum_columns]
    have e1 : ∀ c : Fin 3, (x0 (ix2 ⟨c.val, by omega⟩ ⟨i.val * 200 + j.val, by omega⟩) : EReal) * denseRows x1 x2 x3 (ix2 ⟨c.val, by omega⟩ h)
        = s c * (∑ d : Fin 96, w c d * v ⟨d.val, by omega⟩) := fun c => by
      rw [h0, denseRows_apply, dif_pos c.isLt, dif_pos (show c.val < 3 from c.isLt), stationRows_apply]
      simp only [h1, h2, c.isLt, dif_pos, Fin.eta]
    have e2 : ∀ q : Fin 10, (x0 (ix2 ⟨3 + q.val, by omega⟩ ⟨i.val * 200 + j.val, by omega⟩) : EReal) * denseRows x1 x2 x3 (ix2 ⟨3 + q.val, by omega⟩ h)
        = f ⟨q.val, by omega⟩ * v ⟨96 + q.val, by omega⟩ := fun q => by
      have n : ¬ (3 + q.val < 3) := by omega
      rw [h0, denseRows_apply, dif_neg n, dif_neg n, dif_pos (show 3 + q.val - 3 < 10 by omega), h3]
      simp only [Nat.add_sub_cancel_left]
    have e3 : ∀ r : Fin 5, (x0 (ix2 ⟨13 + r.val, by omega⟩ ⟨i.val * 200 + j.val, by omega⟩) : EReal) * denseRows x1 x2 x3 (ix2 ⟨13 + r.val, by omega⟩ h) = 0 := fun r => by
      rw [denseRows_apply, dif_neg (show ¬ (13 + r.val < 3) by omega), dif_neg (show ¬ (13 + r.val - 3 < 10) by omega), mul_zero]
    simp only [e1, e2, e3, Finset.sum_const_zero, add_zero]
  have hu : ∀ k : Fin 80, ∑ r : Fin 18, (x0 (ix2 r ⟨i.val * 200 + j.val, by omega⟩) : EReal) * selector (F := Ideal) (ix2 ⟨r.val, by omega⟩ k)
      = f ⟨10 + (part k).val, by omega⟩ := fun k => by
    rw [Finset.sum_eq_single (⟨13 + (part k).val, by omega⟩ : Fin 18)]
    · rw [selector_apply, if_pos rfl, mul_one, h0, dif_neg (show ¬ (13 + (part k).val < 3) by omega)]
      exact congrArg f (Fin.ext (by show 13 + (part k).val - 3 = 10 + (part k).val; omega))
    · intro r _ hr
      rw [selector_apply, if_neg (fun e => hr (Fin.ext e)), mul_zero]
    · intro hk; exact absurd (Finset.mem_univ _) hk
  have he : ∀ k : Fin 80, (tableRows x4 x5 (ix2 k h) : EReal) = ∑ t : Fin 16, T k t * v ⟨106 + (16 * (part k).val + t.val), by omega⟩ := fun k => by
    rw [tableRows_apply]
    refine Finset.sum_congr rfl fun t _ => ?_
    rw [h5, h4]
    exact congrArg (· * _) (congrArg (T k) (Fin.ext (by show (16 * (part k).val + t.val) % 16 = t.val; omega)))
  have ha : (stationRows x1 x2 (ix2 3 h) : EReal) = ∑ d : Fin 96, b d * v ⟨d.val, by omega⟩ := by
    rw [stationRows_apply]
    refine Finset.sum_congr rfl fun d _ => ?_
    rw [h1, h2]
    rfl
  have hb : ∀ P : Prop, ∀ _ : Decidable P, (FloatOps.sitofp (F := Ideal) .f32 (BitVec.setWidth 32 (BitVec.ofBool (decide P))) : EReal) = if P then 1 else 0 := fun P _ => by
    rw [← word_value]
    exact congrArg (fun z : BitVec 32 => ((z.toInt : ℝ) : EReal)) (by by_cases hP : P <;> simp [hP])
  simp only [hb, hu, codeRow_apply, he]
  rw [hy, ha, h6]
  rfl

end Cert.KernelIdeal.Tile

end
-- ==== Proof.Value.Host.lean ====
/- What the host part of the kernel's program puts into the seven arrays the grid reads: each as a term of the
   program's arguments, and read at an index. -/
module

public import proofs.«01_k».proof.Proof.Run.Setup
public import Idealize.ShloMosaic.Lib.Pointwise
public import Idealize.ShloMosaic.Lib.Tactic.CleanTypes

@[expose] public section

set_option maxRecDepth 8192

noncomputable section

namespace Cert.KernelIdeal.Host

open Cert.KernelIdeal Cert.KernelIdeal.Gen Cert.KernelIdeal.Run
open Idealize.ShloMosaic Idealize.ShloMosaic.TcCoe Idealize.ShloMosaic.StableHlo

variable {F : FTy → Type} [FloatOps F]

/-! ## The arrays as terms of the arguments -/

/-- The input, one column per position: the three station values, then the fifteen features. -/
def columns (st : Vec F S1024x200x3 .f32) (feat : Vec F S1024x200x15 .f32) : Vec F S18x204800 .bf16 :=
  truncf .bf16 (transpose S18x204800 [1, 0]
    (concatenate S204800x18 1 [⟨S204800x3, shapeCast _ st shapeCasts_S1024x200x3_S204800x3⟩,
      ⟨S204800x15, shapeCast _ feat shapeCasts_S1024x200x15_S204800x15⟩] concatenates_S204800x3_S204800x15_S204800x18_d1)
    transposes_S204800x18_S18x204800_1_0) bitsLt_bf16_f32

/-- The station weights with the station bias below them, and four rows of zeros. -/
def weights (w : Vec F S3x96 .f32) (b : Vec F S96 .f32) : Vec F S8x96 .f32 :=
  concatenate S8x96 0 [⟨S3x96, w⟩, ⟨S1x96, broadcastInDim S1x96 ![1] bcast_S96_S1x96_1 b⟩,
    ⟨S4x96, broadcastInDim S4x96 ![] bcast_S_S4x96 (constant S_ .f32 0x00000000#32)⟩] concatenates_S3x96_S1x96_S4x96_S8x96_d0

/-- The five tables one below the other. -/
def joined (t0 : Vec F S26x16 .f32) (t1 : Vec F S18x16 .f32) (t2 : Vec F S25x16 .f32) (t3 : Vec F S8x16 .f32)
    (t4 : Vec F S3x16 .f32) : Vec F S80x16 .f32 :=
  concatenate S80x16 0 [⟨S26x16, t0⟩, ⟨S18x16, t1⟩, ⟨S25x16, t2⟩, ⟨S8x16, t3⟩, ⟨S3x16, t4⟩]
    concatenates_S26x16_S18x16_S25x16_S8x16_S3x16_S80x16_d0

/-- An array of sixteen columns repeated five times side by side. -/
def repeated (t : Vec F S80x16 .f32) : Vec F S80x80 .f32 :=
  shapeCast S80x80 (broadcastInDim S1x80x5x16 ![0, 1, 2, 3] bcast_S1x80x1x16_S1x80x5x16_0_1_2_3
    (shapeCast S1x80x1x16 t shapeCasts_S80x16_S1x80x1x16)) shapeCasts_S1x80x5x16_S80x80

variable (m : (ℓ : Loc nD τ sig) → Buf (Elt F) ℓ) (c : Dev nD)

/-- The grid's input array holds the columns. -/
theorem V_columns : V m c main_call0_v4 = columns (m ((c.tc : Thread nD τ).loc main_arg0)) (m ((c.tc : Thread nD τ).loc main_arg1)) := by
  unfold V
  simp only [hostOps0, TRef.binary, TRef.nullary, TRef.nary, TRef.unary, TRef.reshape, TRef.toBuf, TRef.ofBuf, cast_eq]
  after_results_simp
  rfl

/-- The grid's station weights. -/
theorem V_weights : V m c main_call0_v7 = weights (m ((c.tc : Thread nD τ).loc main_arg2)) (m ((c.tc : Thread nD τ).loc main_arg3)) := by
  unfold V
  simp only [hostOps0, TRef.binary, TRef.nullary, TRef.nary, TRef.unary, TRef.reshape, TRef.toBuf, TRef.ofBuf, cast_eq]
  after_results_simp
  rfl

/-- The grid's tables. -/
theorem V_tables : V m c main_call0_v14 = repeated (joined (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  unfold V
  simp only [hostOps0, TRef.binary, TRef.nullary, TRef.nary, TRef.unary, TRef.reshape, TRef.toBuf, TRef.ofBuf, cast_eq]
  after_results_simp
  rfl

/-- The grid's first 96 rows of the dense weights. -/
theorem V_head : V m c main_call0_v8 = extractStridedSlice S96x128 ![0, 0] (m ((c.tc : Thread nD τ).loc main_arg9)) slices_S186x128_S96x128_0_0 := by
  unfold V
  simp only [hostOps0, TRef.binary, TRef.nullary, TRef.nary, TRef.unary, TRef.reshape, TRef.toBuf, TRef.ofBuf, cast_eq]
  after_results_simp

/-- The grid's next ten rows of the dense weights. -/
theorem V_middle : V m c main_call0_v9 = extractStridedSlice S10x128 ![96, 0] (m ((c.tc : Thread nD τ).loc main_arg9)) slices_S186x128_S10x128_96_0 := by
  unfold V
  simp only [hostOps0, TRef.binary, TRef.nullary, TRef.nary, TRef.unary, TRef.reshape, TRef.toBuf, TRef.ofBuf, cast_eq]
  after_results_simp

/-- The grid's last eighty rows of the dense weights. -/
theorem V_tail : V m c main_call0_v10 = extractStridedSlice S80x128 ![106, 0] (m ((c.tc : Thread nD τ).loc main_arg9)) slices_S186x128_S80x128_106_0 := by
  unfold V
  simp only [hostOps0, TRef.binary, TRef.nullary, TRef.nary, TRef.unary, TRef.reshape, TRef.toBuf, TRef.ofBuf, cast_eq]
  after_results_simp

/-- The grid's dense bias, as one row. -/
theorem V_bias : V m c main_call0_v15 = broadcastInDim S1x128 ![1] bcast_S128_S1x128_1 (m ((c.tc : Thread nD τ).loc main_arg10)) := by
  unfold V
  simp only [hostOps0, TRef.binary, TRef.nullary, TRef.nary, TRef.unary, TRef.reshape, TRef.toBuf, TRef.ofBuf, cast_eq]
  after_results_simp

/-! ## The arrays at an index -/

/-- A column of the input: the three station values of its position, then the position's fifteen features. -/
theorem columns_apply (st : Vec Ideal S1024x200x3 .f32) (feat : Vec Ideal S1024x200x15 .f32) (r : Fin 18) (n : Fin 1024) (p : Fin 200)
    (q : Fin 204800) (hq : q.val = n.val * 200 + p.val) :
    (columns st feat (ix2 r q) : EReal) = if h : r.val < 3 then st (ix3 n p ⟨r.val, h⟩) else feat (ix3 n p ⟨r.val - 3, by omega⟩) := by
  have e1 : (⟨q.val / 200, by omega⟩ : Fin 1024) = n := Fin.ext (by show q.val / 200 = n.val; omega)
  have e2 : (⟨q.val % 200, by omega⟩ : Fin 200) = p := Fin.ext (by show q.val % 200 = p.val; omega)
  pointwise [columns]
  rw [e1, e2]

/-- The station weights and below them the station bias. -/
theorem weights_apply (w : Vec Ideal S3x96 .f32) (b : Vec Ideal S96 .f32) (r : Fin 8) (d : Fin 96) :
    (weights w b (ix2 r d) : EReal) = if h : r.val < 3 then w (ix2 ⟨r.val, h⟩ d) else if r.val - 3 < 1 then b (ix1 d) else 0 := by
  pointwise [weights]
  rfl

/-- Row `a` of the joined tables, from the row of its table. -/
theorem joined_apply (t0 : Vec Ideal S26x16 .f32) (t1 : Vec Ideal S18x16 .f32) (t2 : Vec Ideal S25x16 .f32) (t3 : Vec Ideal S8x16 .f32)
    (t4 : Vec Ideal S3x16 .f32) (d : Fin 16) :
    (∀ a : Fin 26, (joined t0 t1 t2 t3 t4 (ix2 ⟨a.val, by omega⟩ d) : EReal) = t0 (ix2 a d))
    ∧ (∀ a : Fin 18, (joined t0 t1 t2 t3 t4 (ix2 ⟨26 + a.val, by omega⟩ d) : EReal) = t1 (ix2 a d))
    ∧ (∀ a : Fin 25, (joined t0 t1 t2 t3 t4 (ix2 ⟨44 + a.val, by omega⟩ d) : EReal) = t2 (ix2 a d))
    ∧ (∀ a : Fin 8, (joined t0 t1 t2 t3 t4 (ix2 ⟨69 + a.val, by omega⟩ d) : EReal) = t3 (ix2 a d))
    ∧ (∀ a : Fin 3, (joined t0 t1 t2 t3 t4 (ix2 ⟨77 + a.val, by omega⟩ d) : EReal) = t4 (ix2 a d)) := by
  refine ⟨fun a => ?_, fun a => ?_, fun a => ?_, fun a => ?_, fun a => ?_⟩
  all_goals
    pointwise [joined]
    repeat' split
    all_goals first
      | (exfalso; omega)
      | (congr 2; exact Fin.ext (by simp only []; omega))
      | rfl

/-- The tables repeated side by side hold table column `d mod 16` at column `d`. -/
theorem repeated_apply (t : Vec Ideal S80x16 .f32) (r d : Fin 80) :
    (repeated t (ix2 r d) : EReal) = t (ix2 r ⟨d.val % 16, by omega⟩) := by
  pointwise [repeated]

end Cert.KernelIdeal.Host

end
-- ==== Proof.Value.Kernel.lean ====
/- What the kernel's result array holds at each index, over the extended reals, as a function of the program's arguments. -/
module

public import proofs.«01_k».proof.Proof.Run.Final
public import proofs.«01_k».proof.Proof.Value.Tile
public import proofs.«01_k».proof.Proof.Value.Host

@[expose] public section

set_option maxRecDepth 8192

noncomputable section

namespace Cert.KernelIdeal.Run

open Cert.KernelIdeal Cert.KernelIdeal.Gen Cert.Math
open Idealize.ShloMosaic Idealize.ShloMosaic.TcCoe

variable (m : (ℓ : Loc nD τ sig) → Buf (Elt Ideal) ℓ) (c : Dev nD)

/-- The program's arguments: the station values and features of every position, the station weights and bias, the five
    tables, the dense weights and bias. -/
def inStation : Vec Ideal S1024x200x3 .f32 := m ((c.tc : Thread nD τ).loc main_arg0)
def inFeature : Vec Ideal S1024x200x15 .f32 := m ((c.tc : Thread nD τ).loc main_arg1)
def inWeight : Vec Ideal S3x96 .f32 := m ((c.tc : Thread nD τ).loc main_arg2)
def inBias : Vec Ideal S96 .f32 := m ((c.tc : Thread nD τ).loc main_arg3)
def inTables : Vec Ideal S80x16 .f32 :=
  Host.joined (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))
def inDense : Vec Ideal S186x128 .f32 := m ((c.tc : Thread nD τ).loc main_arg9)
def inDenseBias : Vec Ideal S128 .f32 := m ((c.tc : Thread nD τ).loc main_arg10)

/-- The result array at row `n`, position `p` and output `h` is the folded form of the arguments. -/
theorem result_apply (n : Fin 1024) (p : Fin 200) (h : Fin 128) :
    (result m c (ix3 n p h) : EReal) = folded (fun k => inStation m c (ix3 n p k)) (fun k => inFeature m c (ix3 n p k))
      (fun k d => inWeight m c (ix2 k d)) (fun d => inBias m c (ix1 d)) (fun k d => inTables m c (ix2 k d))
      (fun x => inDense m c (ix2 x h)) (inDenseBias m c (ix1 h)) := by
  show (tileAt m c _ (ix3 _ p h) : EReal) = _
  unfold tileAt fixA fixE fixD
  refine Tile.tile_apply _ _ _ _ _ _ _ _ _ _ _ _ _ _ _ _ _ (fun r => ?_) (fun r d => ?_) (fun d => ?_) (fun q => ?_) (fun k => ?_) (fun k d => ?_) ?_
  · rw [block_columns, Host.V_columns]
    exact Host.columns_apply _ _ r n p _ (by
      show n.val / 128 * 25600 + (n.val % 128 * 200 + p.val) = n.val * 200 + p.val
      omega)
  · rw [block_weights, Host.V_weights]
    exact Host.weights_apply _ _ r d
  · rw [block_head, Host.V_head]
    pointwise
    rfl
  · rw [block_middle, Host.V_middle]
    pointwise
    rfl
  · rw [block_tail, Host.V_tail]
    pointwise
    rfl
  · rw [block_tables, Host.V_tables]
    exact Host.repeated_apply _ k d
  · rw [block_bias, Host.V_bias]
    pointwise
    rfl

end Cert.KernelIdeal.Run

end
-- ==== Proof.Value.Lookup.lean ====
/- A table lookup of the reference: the row that a code names, where the code is a row number of the table. The reference
   counts a negative code from the end and fills in a constant where a code is out of range; neither happens to a row number. -/
module

public import proofs.«01_k».proof.Proof.Gen.ReferenceIdeal
public import Idealize.ShloMosaic.Lib.Pointwise
public import Idealize.ShloMosaic.Lib.ReduceAll
public import Idealize.ShloMosaic.Lib.WordCmp

@[expose] public section

set_option maxRecDepth 8192

noncomputable section

namespace Cert.ReferenceIdeal.Lookup

open Cert.ReferenceIdeal Cert.ReferenceIdeal.Gen
open Idealize.ShloMosaic Idealize.ShloMosaic.TcCoe

/-- The shape of a table of `n` rows. -/
abbrev Tab (n : ℕ) : Shape := ⟨2, ![n, 16]⟩

/-- A lookup's axes: a code on every position, one row of sixteen per code. -/
def dims (n : ℕ) (wf : GatherDims.WF (Tab n) S1024x200x1 S1024x200x16 [2] [0] [] [0] [] 2 ![1, 16]) :
    GatherDims (Tab n) S1024x200x1 S1024x200x16 where
  offsetDims := [2]
  collapsedSliceDims := [0]
  operandBatchingDims := []
  startIndicesBatchingDims := []
  startIndexMap := [0]
  indexVectorDim := 2
  sliceSizes := ![1, 16]
  wf := wf

variable {n : ℕ} (wf : GatherDims.WF (Tab n) S1024x200x1 S1024x200x16 [2] [0] [] [0] [] 2 ![1, 16])

/-- A result element reads the code of its position. -/
theorem code_index (x : Fin 1024) (p : Fin 200) (t : Fin 16) (k : Fin (dims n wf).startIndexMap.length) :
    (dims n wf).siIdx (ix3 x p t) k = ix3 x p 0 := by
  funext b
  apply Fin.ext
  match b with
  | ⟨0, _⟩ => rfl
  | ⟨1, _⟩ => rfl
  | ⟨2, _⟩ => exact Nat.lt_one_iff.1 k.isLt

/-- The gather reads the table at the row that the code names. -/
theorem gather_code (tab : FVec Ideal (Tab n) .f32) (idx : IVec S1024x200x1 32) (x : Fin 1024) (p : Fin 200) (t : Fin 16) (a : Fin n)
    (h : (idx (ix3 x p 0)).toInt = (a.val : ℤ)) : Host.gather (dims n wf) tab idx (ix3 x p t) = tab (ix2 a t) := by
  have e0 : (dims n wf).start (ix3 x p t) idx 0 = a.val := by
    have := a.isLt
    refine (show _ = min (idx ((dims n wf).siIdx (ix3 x p t) ⟨0, Nat.one_pos⟩)).toInt.toNat (n - 1) from rfl).trans ?_
    rw [code_index, h]
    omega
  show tab ((dims n wf).operandIdx (ix3 x p t) idx) = _
  congr 1
  funext b
  apply Fin.ext
  match b with
  | ⟨0, _⟩ =>
    exact e0
  | ⟨1, _⟩ => show 0 + 0 + t.val = t.val; omega

/-! ## The reference's lookup -/

/-- The row indices: a negative code counts from the end. -/
def rowIndex (code : IVec S1024x200 32) (size : BitVec 32) : IVec S1024x200x1 32 :=
  broadcastInDim S1024x200x1 ![0, 1] bcast_S1024x200_S1024x200x1_0_1
    (select (cmpi .slt code (broadcastInDim S1024x200 ![] bcast_S_S1024x200 (constantI S_ 32 0#32)))
      (addi code (broadcastInDim S1024x200 ![] bcast_S_S1024x200 (constantI S_ 32 size))) code)

/-- Whether a row index is in range. -/
def inRange (idx : IVec S1024x200x1 32) (last : BitVec 32) : IVec S1024x200 1 :=
  Host.reduce IntOp.andi (andi (cmpi .sge idx (broadcastInDim S1024x200x1 ![] bcast_S_S1024x200x1 (constantI S_ 32 0#32)))
      (cmpi .sle idx (broadcastInDim S1024x200x1 ![0, 1, 2] bcast_S1x1x1_S1024x200x1_0_1_2
        (broadcastInDim S1x1x1 ![2] bcast_S1_S1x1x1_2 (constantI S1 32 last)))))
    (constantI S_ 1 1#1) reducesTo_S1024x200x1_S1024x200_d2 h_S_

/-- The lookup of every position's code. -/
def lookup (size last : BitVec 32) (tab : FVec Ideal (Tab n) .f32) (code : IVec S1024x200 32) : FVec Ideal S1024x200x16 .f32 :=
  select (broadcastInDim S1024x200x16 ![0, 1] bcast_S1024x200_S1024x200x16_0_1 (inRange (rowIndex code size) last))
    (Host.gather (dims n wf) tab (rowIndex code size))
    (broadcastInDim S1024x200x16 ![] bcast_S_S1024x200x16 (constant S_ .f32 0x7FC00000#32))

/-- A row number, read signed, is itself. -/
theorem word_toInt (a : ℕ) (h : a < 2 ^ 31) : (BitVec.ofNat 32 a).toInt = (a : ℤ) := by
  rw [BitVec.toInt_ofNat']; simp [Int.bmod]; omega

variable (code : IVec S1024x200 32) (size : BitVec 32) (row : Fin 1024 → Fin 200 → Fin n)
  (hn : n < 2 ^ 31) (h : ∀ x p, code (ix2 x p) = BitVec.ofNat 32 (row x p).val)
include hn h

/-- A row number is its own row index. -/
theorem rowIndex_apply (x : Fin 1024) (p : Fin 200) : rowIndex code size (ix3 x p 0) = BitVec.ofNat 32 (row x p).val := by
  have hr := (row x p).isLt
  have e : ¬ IntOp.cmpi .slt (BitVec.ofNat 32 (row x p).val) 0#32 = 1#1 := by
    rw [IntOp.cmpi_slt, word_toInt _ (by omega), show (0#32 : BitVec 32).toInt = 0 from by decide]
    omega
  pointwise [rowIndex]
  rw [h x p]
  exact if_neg e

/-- Every row number is in range. -/
theorem inRange_apply (j : S1024x200.Idx) : inRange (rowIndex code size) (BitVec.ofNat 32 (n - 1)) j = 1#1 := by
  refine Host.reduce_andi_one _ _ _ _ j rfl fun i => ?_
  obtain ⟨x, p, rfl⟩ : ∃ (x : Fin 1024) (p : Fin 200), i = ix3 x p 0 := ⟨i 0, i 1, by
    funext a
    match a with
    | ⟨0, _⟩ => rfl
    | ⟨1, _⟩ => rfl
    | ⟨2, _⟩ => exact Subsingleton.elim (α := Fin 1) _ _⟩
  have hr := (row x p).isLt
  refine IntOp.andi_eq_one.2 ⟨IntOp.cmpi_sge.2 ?_, IntOp.cmpi_sle.2 ?_⟩
  · rw [rowIndex_apply code size row hn h, word_toInt _ (by omega)]
    show (0#32 : BitVec 32).toInt ≤ _
    rw [show (0#32 : BitVec 32).toInt = 0 from by decide]
    omega
  · rw [rowIndex_apply code size row hn h, word_toInt _ (by omega)]
    show _ ≤ (BitVec.ofNat 32 (n - 1)).toInt
    rw [word_toInt _ (by omega)]
    omega

/-- Where every code is a row number, the lookup is the row it names. -/
theorem lookup_apply (tab : FVec Ideal (Tab n) .f32) (x : Fin 1024) (p : Fin 200) (t : Fin 16) :
    lookup wf size (BitVec.ofNat 32 (n - 1)) tab code (ix3 x p t) = tab (ix2 (row x p) t) := by
  have hr := (row x p).isLt
  have e : broadcastInDim S1024x200x16 ![0, 1] bcast_S1024x200_S1024x200x16_0_1 (inRange (rowIndex code size) (BitVec.ofNat 32 (n - 1)))
      (ix3 x p t) = 1#1 := inRange_apply code size row hn h _
  have g := gather_code wf tab (rowIndex code size) x p t (row x p)
    (by rw [rowIndex_apply code size row hn h, word_toInt _ (by omega)])
  unfold lookup
  rw [ValueIdx.select_apply, e, g]
  exact if_pos rfl

end Cert.ReferenceIdeal.Lookup

end
-- ==== Proof.Value.Reference.lean ====
/- What the reference's result holds at each index, over the extended reals: the plain form of Value/Math.lean. -/
module

public import proofs.«01_k».proof.Proof.Gen.ReferenceIdeal.Run
public import proofs.«01_k».proof.Proof.Value.Lookup
public import proofs.«01_k».proof.Proof.Value.Math
public import Idealize.ShloMosaic.Lib.Tactic.CleanTypes

@[expose] public section

set_option maxRecDepth 8192

noncomputable section

namespace Cert.ReferenceIdeal.Lookup

open Cert.ReferenceIdeal Cert.ReferenceIdeal.Gen Cert.Math
open Idealize.ShloMosaic Idealize.ShloMosaic.TcCoe

/-- The reference's last layers, of the five lookups: the station layer, the ten plain features and the lookups side by
    side, times the dense weights, with the bias, cut off at zero. -/
def outer (st : FVec Ideal S1024x200x3 .f32) (feat : FVec Ideal S1024x200x15 .f32) (w : FVec Ideal S3x96 .f32) (b : FVec Ideal S96 .f32)
    (u0 u1 u2 u3 u4 : FVec Ideal S1024x200x16 .f32) (w0 : FVec Ideal S186x128 .f32) (b0 : FVec Ideal S128 .f32) : FVec Ideal S1024x200x128 .f32 :=
  maximumf (addf (Host.dotGeneral dot_S1024x200x186_S186x128_S1024x200x128_2_0_01_1_n_n none
      (concatenate S1024x200x186 2 [
        ⟨S1024x200x96, addf (Host.dotGeneral dot_S1024x200x3_S3x96_S1024x200x96_2_0_01_1_n_n none st w)
          (broadcastInDim S1024x200x96 ![0, 1, 2] bcast_S1x1x96_S1024x200x96_0_1_2 (broadcastInDim S1x1x96 ![2] bcast_S96_S1x1x96_2 b))⟩,
        ⟨S1024x200x10, extractStridedSlice S1024x200x10 ![0, 0, 0] feat slices_S1024x200x15_S1024x200x10_0_0_0⟩,
        ⟨S1024x200x16, u0⟩, ⟨S1024x200x16, u1⟩, ⟨S1024x200x16, u2⟩, ⟨S1024x200x16, u3⟩, ⟨S1024x200x16, u4⟩]
        concatenates_S1024x200x96_S1024x200x10_S1024x200x16_S1024x200x16_S1024x200x16_S1024x200x16_S1024x200x16_S1024x200x186_d2) w0)
      (broadcastInDim S1024x200x128 ![0, 1, 2] bcast_S1x1x128_S1024x200x128_0_1_2 (broadcastInDim S1x1x128 ![2] bcast_S128_S1x1x128_2 b0)))
    (broadcastInDim S1024x200x128 ![] bcast_S_S1024x200x128 (constant S_ .f32 0x00000000#32))

/-- The last layers at an index, where the five lookups are rows of one array of tables. -/
theorem outer_apply (st : FVec Ideal S1024x200x3 .f32) (feat : FVec Ideal S1024x200x15 .f32) (w : FVec Ideal S3x96 .f32) (b : FVec Ideal S96 .f32)
    (u0 u1 u2 u3 u4 : FVec Ideal S1024x200x16 .f32) (w0 : FVec Ideal S186x128 .f32) (b0 : FVec Ideal S128 .f32)
    (x : Fin 1024) (p : Fin 200) (h : Fin 128) (T : Fin 80 → Fin 16 → EReal) (a : Fin 5 → Fin 80)
    (h0 : ∀ t, (u0 (ix3 x p t) : EReal) = T (a 0) t) (h1 : ∀ t, (u1 (ix3 x p t) : EReal) = T (a 1) t)
    (h2 : ∀ t, (u2 (ix3 x p t) : EReal) = T (a 2) t) (h3 : ∀ t, (u3 (ix3 x p t) : EReal) = T (a 3) t)
    (h4 : ∀ t, (u4 (ix3 x p t) : EReal) = T (a 4) t) :
    (outer st feat w b u0 u1 u2 u3 u4 w0 b0 (ix3 x p h) : EReal)
      = plain (fun k => st (ix3 x p k)) (fun k => feat (ix3 x p k)) (fun k d => w (ix2 k d)) (fun d => b (ix1 d)) T
          (fun y => w0 (ix2 y h)) (b0 (ix1 h)) a := by
  unfold outer
  pointwise
  rw [sum_inputs]
  unfold plain
  refine congrArg (max · (0 : EReal)) (congrArg (· + (b0 (ix1 h) : EReal)) (congrArg₂ (· + ·) (Finset.sum_congr rfl fun d _ => ?_)
    (congrArg₂ (· + ·) (Finset.sum_congr rfl fun q _ => ?_) (Finset.sum_congr rfl fun r _ => Finset.sum_congr rfl fun t _ => ?_))))
  · have hd : d.val < 96 := d.isLt
    simp only [hd, if_true, dif_pos]
  · have hq : q.val < 10 := q.isLt
    simp only [Nat.add_sub_cancel_left, hq, dif_pos, if_true, show ¬ (96 + q.val < 96) by omega, if_false, dif_neg, not_false_eq_true]
  · refine congrArg (· * (w0 (ix2 ⟨106 + (16 * r.val + t.val), by omega⟩ h) : EReal)) ?_
    simp only [h0, h1, h2, h3, h4]
    have ht : t.val < 16 := t.isLt
    fin_cases r
    all_goals
      simp only [Fin.zero_eta, Fin.mk_one, Fin.reduceFinMk, Fin.val_zero, Fin.val_one, Fin.coe_ofNat_eq_mod]
      repeat' split
      all_goals first
        | (exfalso; omega)
        | (refine congrArg _ (Fin.ext ?_)
           simp only []
           omega)

/-- The words of one channel of the features. -/
def words (k : ℕ) (h : S1024x200x15.Slices ![0, 0, k] S1024x200x1) (feat : FVec Ideal S1024x200x15 .f32) : IVec S1024x200 32 :=
  fptosi 32 (shapeCast S1024x200 (extractStridedSlice S1024x200x1 ![0, 0, k] feat h) shapeCasts_S1024x200x1_S1024x200)

/-- The reference's result, as a function of its arguments. -/
def value (st : FVec Ideal S1024x200x3 .f32) (feat : FVec Ideal S1024x200x15 .f32) (w : FVec Ideal S3x96 .f32) (b : FVec Ideal S96 .f32)
    (t0 : FVec Ideal (Tab 26) .f32) (t1 : FVec Ideal (Tab 18) .f32) (t2 : FVec Ideal (Tab 25) .f32) (t3 : FVec Ideal (Tab 8) .f32)
    (t4 : FVec Ideal (Tab 3) .f32) (w0 : FVec Ideal S186x128 .f32) (b0 : FVec Ideal S128 .f32) : FVec Ideal S1024x200x128 .f32 :=
  outer st feat w b
      (lookup gather_S26x16_S1024x200x1_S1024x200x16_2_0_n_n_0_2_116_wf 26#32 25#32 t0
        (words 10 slices_S1024x200x15_S1024x200x1_0_0_10 feat))
      (lookup gather_S18x16_S1024x200x1_S1024x200x16_2_0_n_n_0_2_116_wf 18#32 17#32 t1
        (words 11 slices_S1024x200x15_S1024x200x1_0_0_11 feat))
      (lookup gather_S25x16_S1024x200x1_S1024x200x16_2_0_n_n_0_2_116_wf 25#32 24#32 t2
        (words 12 slices_S1024x200x15_S1024x200x1_0_0_12 feat))
      (lookup gather_S8x16_S1024x200x1_S1024x200x16_2_0_n_n_0_2_116_wf 8#32 7#32 t3
        (words 13 slices_S1024x200x15_S1024x200x1_0_0_13 feat))
      (lookup gather_S3x16_S1024x200x1_S1024x200x16_2_0_n_n_0_2_116_wf 3#32 2#32 t4
        (words 14 slices_S1024x200x15_S1024x200x1_0_0_14 feat)) w0 b0

/-- The program's result is that function of its arguments. -/
theorem res_eq (m : (ℓ : Loc nD τ sig) → Buf (Elt Ideal) ℓ) (c : Dev nD) :
    Value.res_main_v30 m c = value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

end Cert.ReferenceIdeal.Lookup

end
-- ==== Proof.Value.Pre.lean ====
/- What the precondition says of the arguments: each of the last five feature channels is a row number of its table, and the
   station values, the station weights and the first 96 rows of the dense weights are finite. -/
module

public import proofs.«01_k».proof.Proof.Gen.Pre_codes_and_finite
public import proofs.«01_k».proof.Pre_codes_and_finite
public import Idealize.ShloMosaic.Lib.Pointwise
public import Idealize.ShloMosaic.Lib.ReduceAll
public import Idealize.ShloMosaic.Lib.WordCmp

@[expose] public section

set_option maxRecDepth 8192

noncomputable section

namespace Cert.Pre_codes_and_finite

open Idealize.ShloMosaic
open Facts

variable [Facts]

/-! ## The parts of the precondition -/

/-- The test of a channel: it is the value of its word, and the word is from zero up to below `n`. -/
def codeOk (f : FVec Ideal S1024x200 .f32) (n : BitVec 32) : IVec S1024x200 1 :=
  andi (andi (cmpf .oeq (sitofp .f32 (fptosi 32 f)) f)
      (cmpi .sge (fptosi 32 f) (broadcastInDim S1024x200 ![] bcast_S_S1024x200 (constantI S_ 32 0#32))))
    (cmpi .slt (fptosi 32 f) (broadcastInDim S1024x200 ![] bcast_S_S1024x200 (constantI S_ 32 n)))

/-- The test holds at every position. -/
def codesOk (f : FVec Ideal S1024x200 .f32) (n : BitVec 32) : IVec S_ 1 :=
  Host.reduce IntOp.andi (codeOk f n) (constantI S_ 1 1#1) reducesTo_S1024x200_S_d0_1 h_S_

/-- The test of a value: its magnitude is below the infinity. -/
def finiteOk {s : Shape} (h : S_.BroadcastsInDim s (![] : Fin 0 → Fin s.rank)) (x : FVec Ideal s .f32) : IVec s 1 :=
  cmpf .olt (Host.absf x) (broadcastInDim s ![] h (constant S_ .f32 0x7F800000#32))

/-- One channel of the features, at every position. -/
def channel (k : ℕ) (h : S1024x200x15.Slices ![0, 0, k] S1024x200x1) (feat : FVec Ideal S1024x200x15 .f32) : FVec Ideal S1024x200 .f32 :=
  shapeCast S1024x200 (extractStridedSlice S1024x200x1 ![0, 0, k] feat h) shapeCasts_S1024x200x1_S1024x200

/-- A channel at a position is the feature there. -/
theorem channel_apply (k : ℕ) (hk : k < 15) (h : S1024x200x15.Slices ![0, 0, k] S1024x200x1) (feat : FVec Ideal S1024x200x15 .f32)
    (n : Fin 1024) (p : Fin 200) : (channel k h feat (ix2 n p) : EReal) = feat (ix3 n p ⟨k, hk⟩) := by
  unfold channel
  pointwise

/-- The precondition is the conjunction of its eight tests. -/
theorem fn_eq (a0 : FVec Ideal S1024x200x3 .f32) (a1 : FVec Ideal S1024x200x15 .f32) (a2 : FVec Ideal S3x96 .f32) (a3 : FVec Ideal S96 .f32)
    (a4 : FVec Ideal S26x16 .f32) (a5 : FVec Ideal S18x16 .f32) (a6 : FVec Ideal S25x16 .f32) (a7 : FVec Ideal S8x16 .f32)
    (a8 : FVec Ideal S3x16 .f32) (a9 : FVec Ideal S186x128 .f32) (a10 : FVec Ideal S128 .f32) :
    fn a0 a1 a2 a3 a4 a5 a6 a7 a8 a9 a10
      = andi (andi (andi (andi (andi (codesOk (channel 10 slices_S1024x200x15_S1024x200x1_0_0_10 a1) 26#32)
          (codesOk (channel 11 slices_S1024x200x15_S1024x200x1_0_0_11 a1) 18#32))
          (codesOk (channel 12 slices_S1024x200x15_S1024x200x1_0_0_12 a1) 25#32))
          (codesOk (channel 13 slices_S1024x200x15_S1024x200x1_0_0_13 a1) 8#32))
          (codesOk (channel 14 slices_S1024x200x15_S1024x200x1_0_0_14 a1) 3#32))
        (andi (andi
          (Host.reduce IntOp.andi (finiteOk bcast_S_S1024x200x3 a0) (constantI S_ 1 1#1) reducesTo_S1024x200x3_S_d0_1_2 h_S_)
          (Host.reduce IntOp.andi (finiteOk bcast_S_S3x96 a2) (constantI S_ 1 1#1) reducesTo_S3x96_S_d0_1 h_S_))
          (Host.reduce IntOp.andi (finiteOk bcast_S_S96x128 (extractStridedSlice S96x128 ![0, 0] a9 slices_S186x128_S96x128_0_0))
            (constantI S_ 1 1#1) reducesTo_S96x128_S_d0_1 h_S_)) := rfl

/-! ## What one test says -/

/-- A decided bit that is one says what it decides. -/
theorem decided {P : Prop} [Decidable P] (h : BitVec.ofBool (decide P) = 1#1) : P := by
  by_contra n
  rw [decide_eq_false n] at h
  exact absurd h (by decide)

/-- A word from zero up to below `n` is that of a number below `n`. -/
theorem word_of_range (w : BitVec 32) (n : ℕ) (hn : n < 2 ^ 31) (h0 : IntOp.cmpi .sge w 0#32 = 1#1)
    (h1 : IntOp.cmpi .slt w (BitVec.ofNat 32 n) = 1#1) : ∃ a < n, w = BitVec.ofNat 32 a ∧ w.toInt = (a : ℤ) := by
  have e0 := IntOp.cmpi_sge.1 h0
  have e1 := IntOp.cmpi_slt.1 h1
  have en : (BitVec.ofNat 32 n).toInt = (n : ℤ) := by rw [BitVec.toInt_ofNat']; simp [Int.bmod]; omega
  have ez : (0#32 : BitVec 32).toInt = 0 := by decide
  rw [en] at e1
  rw [ez] at e0
  have ew : w.toInt = (w.toNat : ℤ) := by
    have := w.isLt
    rw [BitVec.toInt_eq_toNat_cond] at e0 ⊢
    split_ifs at e0 ⊢ <;> omega
  exact ⟨w.toNat, by omega, by simp, ew⟩

/-- Where a channel's test holds the channel is a number below `n`, and its word is that number's. -/
theorem code_of_ok (f : FVec Ideal S1024x200 .f32) (n : ℕ) (hn : n < 2 ^ 31) (j : S1024x200.Idx) (h : codeOk f (BitVec.ofNat 32 n) j = 1#1) :
    ∃ a < n, fptosi 32 f j = BitVec.ofNat 32 a ∧ (f j : EReal) = ((a : ℝ) : EReal) := by
  obtain ⟨h01, h2⟩ := IntOp.andi_eq_one.1 h
  obtain ⟨h0, h1⟩ := IntOp.andi_eq_one.1 h01
  obtain ⟨a, ha, hw, hi⟩ := word_of_range _ n hn h1 h2
  refine ⟨a, ha, hw, ?_⟩
  have e : (((fptosi 32 f j).toInt : ℝ) : EReal) = f j := decided h0
  rw [← e, hi]
  simp

/-- Where a value's test holds the value is a real number. -/
theorem real_of_ok {s : Shape} (hb : S_.BroadcastsInDim s (![] : Fin 0 → Fin s.rank)) (x : FVec Ideal s .f32) (j : s.Idx)
    (h : finiteOk hb x j = 1#1) : ∃ r : ℝ, (x j : EReal) = r := by
  have htop : Ideal.ofBits .f32 0x7F800000#32 = ⊤ := by simp [Ideal.ofBits, Ideal.ieee]
  have h' : Ideal.cmp .olt (max (x j : EReal) (-(x j : EReal))) (Ideal.ofBits .f32 0x7F800000#32) = 1#1 := h
  rw [htop] at h'
  have h'' : max (x j : EReal) (-(x j : EReal)) < ⊤ := decided h'
  obtain ⟨h1, h2⟩ := max_lt_iff.1 h''
  have hbot : (x j : EReal) ≠ ⊥ := fun e => by rw [e] at h2; simp at h2
  exact ⟨(x j : EReal).toReal, (EReal.coe_toReal h1.ne hbot).symm⟩

/-! ## What the precondition says -/

/-- All of a channel's tests hold when their conjunction does. -/
theorem codes_of_all (k : ℕ) (hk : k < 15) (hs : S1024x200x15.Slices ![0, 0, k] S1024x200x1) (feat : FVec Ideal S1024x200x15 .f32)
    (n : ℕ) (hn : n < 2 ^ 31) (j : S_.Idx) (h : codesOk (channel k hs feat) (BitVec.ofNat 32 n) j = 1#1) (x : Fin 1024) (p : Fin 200) :
    ∃ a < n, fptosi 32 (channel k hs feat) (ix2 x p) = BitVec.ofNat 32 a ∧ (feat (ix3 x p ⟨k, hk⟩) : EReal) = ((a : ℝ) : EReal) := by
  rw [← channel_apply k hk hs feat x p]
  exact code_of_ok _ n hn _ (Host.reduce_andi_all _ _ _ _ j h _)

section
variable (a0 : FVec Ideal S1024x200x3 .f32) (a1 : FVec Ideal S1024x200x15 .f32) (a2 : FVec Ideal S3x96 .f32) (a3 : FVec Ideal S96 .f32)
  (a4 : FVec Ideal S26x16 .f32) (a5 : FVec Ideal S18x16 .f32) (a6 : FVec Ideal S25x16 .f32) (a7 : FVec Ideal S8x16 .f32)
  (a8 : FVec Ideal S3x16 .f32) (a9 : FVec Ideal S186x128 .f32) (a10 : FVec Ideal S128 .f32)
  (h : fn a0 a1 a2 a3 a4 a5 a6 a7 a8 a9 a10 = fun _ => 1#1)
include h

/-- Under the precondition the last five channels are row numbers of the five tables, at every position. -/
theorem codes (x : Fin 1024) (p : Fin 200) :
    (∃ a < 26, fptosi 32 (channel 10 slices_S1024x200x15_S1024x200x1_0_0_10 a1) (ix2 x p) = BitVec.ofNat 32 a ∧ (a1 (ix3 x p 10) : EReal) = ((a : ℝ) : EReal))
    ∧ (∃ a < 18, fptosi 32 (channel 11 slices_S1024x200x15_S1024x200x1_0_0_11 a1) (ix2 x p) = BitVec.ofNat 32 a ∧ (a1 (ix3 x p 11) : EReal) = ((a : ℝ) : EReal))
    ∧ (∃ a < 25, fptosi 32 (channel 12 slices_S1024x200x15_S1024x200x1_0_0_12 a1) (ix2 x p) = BitVec.ofNat 32 a ∧ (a1 (ix3 x p 12) : EReal) = ((a : ℝ) : EReal))
    ∧ (∃ a < 8, fptosi 32 (channel 13 slices_S1024x200x15_S1024x200x1_0_0_13 a1) (ix2 x p) = BitVec.ofNat 32 a ∧ (a1 (ix3 x p 13) : EReal) = ((a : ℝ) : EReal))
    ∧ (∃ a < 3, fptosi 32 (channel 14 slices_S1024x200x15_S1024x200x1_0_0_14 a1) (ix2 x p) = BitVec.ofNat 32 a ∧ (a1 (ix3 x p 14) : EReal) = ((a : ℝ) : EReal)) := by
  have e := congrFun h ix0
  rw [fn_eq] at e
  obtain ⟨e, -⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨codes_of_all 10 (by decide) _ a1 26 (by decide) _ e0 x p, codes_of_all 11 (by decide) _ a1 18 (by decide) _ e1 x p,
    codes_of_all 12 (by decide) _ a1 25 (by decide) _ e2 x p, codes_of_all 13 (by decide) _ a1 8 (by decide) _ e3 x p,
    codes_of_all 14 (by decide) _ a1 3 (by decide) _ e4 x p⟩

/-- Under the precondition the station values, the station weights and the first 96 rows of the dense weights are real. -/
theorem reals : (∀ i, ∃ r : ℝ, (a0 i : EReal) = r) ∧ (∀ i, ∃ r : ℝ, (a2 i : EReal) = r)
    ∧ (∀ (d : Fin 96) (k : Fin 128), ∃ r : ℝ, (a9 (ix2 ⟨d.val, by omega⟩ k) : EReal) = r) := by
  have e := congrFun h ix0
  rw [fn_eq] at e
  obtain ⟨-, e⟩ := IntOp.andi_eq_one.1 e
  obtain ⟨e, e2⟩ := IntOp.andi_eq_one.1 e
  obtain ⟨e0, e1⟩ := IntOp.andi_eq_one.1 e
  refine ⟨fun i => real_of_ok _ a0 i (Host.reduce_andi_all _ _ _ _ _ e0 i), fun i => real_of_ok _ a2 i (Host.reduce_andi_all _ _ _ _ _ e1 i), fun d k => ?_⟩
  obtain ⟨r, hr⟩ := real_of_ok _ _ (ix2 d k) (Host.reduce_andi_all _ _ _ _ _ e2 (ix2 d k))
  refine ⟨r, ?_⟩
  rw [← hr]
  pointwise

end

end Cert.Pre_codes_and_finite

end
-- ==== Proof.Value.Equation.lean ====
/- The equation: under the precondition the kernel's result array is the reference's function of the same arguments. -/
module

public import proofs.«01_k».proof.Proof.Value.Kernel
public import proofs.«01_k».proof.Proof.Value.Reference
public import proofs.«01_k».proof.Proof.Value.Pre

@[expose] public section

set_option maxRecDepth 8192

noncomputable section

namespace Cert.Equation

open Cert.KernelIdeal Cert.KernelIdeal.Gen Cert.KernelIdeal.Run Cert.Math
open Cert.ReferenceIdeal.Lookup (value outer_apply lookup_apply)
open Cert.Pre_codes_and_finite (codes reals fn)
open Idealize.ShloMosaic Idealize.ShloMosaic.TcCoe

variable (m : (ℓ : Loc nD τ sig) → Buf (Elt Ideal) ℓ) (c : Dev nD)

/-- The kernel's result is the reference's value of the kernel's arguments, under the precondition. -/
theorem result_eq_value
    (hpre : fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) = fun _ => 1#1) :
    result m c = value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  obtain ⟨hs, hw, hv⟩ := reals _ _ _ _ _ _ _ _ _ _ _ hpre
  have hc := codes _ _ _ _ _ _ _ _ _ _ _ hpre
  choose a0 l0 w0 v0 using fun x p => (hc x p).1
  choose a1 l1 w1 v1 using fun x p => (hc x p).2.1
  choose a2 l2 w2 v2 using fun x p => (hc x p).2.2.1
  choose a3 l3 w3 v3 using fun x p => (hc x p).2.2.2.1
  choose a4 l4 w4 v4 using fun x p => (hc x p).2.2.2.2
  funext i
  obtain ⟨x, p, h, rfl⟩ : ∃ (x : Fin 1024) (p : Fin 200) (h : Fin 128), i = ix3 x p h := ⟨i 0, i 1, i 2, by
    funext b
    match b with
    | ⟨0, _⟩ => rfl
    | ⟨1, _⟩ => rfl
    | ⟨2, _⟩ => rfl⟩
  have ha : ∀ r, (![a0 x p, a1 x p, a2 x p, a3 x p, a4 x p] : Fin 5 → ℕ) r < rows r := fun r => by
    match r with
    | 0 => exact l0 x p
    | 1 => exact l1 x p
    | 2 => exact l2 x p
    | 3 => exact l3 x p
    | 4 => exact l4 x p
  have hf : ∀ r : Fin 5, (inFeature m c (ix3 x p ⟨10 + r.val, by omega⟩) : EReal)
      = (((![a0 x p, a1 x p, a2 x p, a3 x p, a4 x p] : Fin 5 → ℕ) r : ℝ) : EReal) := fun r => by
    match r with
    | 0 => exact v0 x p
    | 1 => exact v1 x p
    | 2 => exact v2 x p
    | 3 => exact v3 x p
    | 4 => exact v4 x p
  have ht := fun t => Host.joined_apply (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) t
  refine (result_apply m c x p h).trans ((folded_eq_plain _ _ _ _ _ _ _ (fun k => hs _) (fun k d => hw _) (fun d => hv d h) _ ha hf).trans ?_)
  refine (outer_apply _ _ _ _ _ _ _ _ _ _ _ x p h (fun k d => inTables m c (ix2 k d)) _ (fun t => ?_) (fun t => ?_) (fun t => ?_) (fun t => ?_) (fun t => ?_)).symm
  · exact (lookup_apply _ _ _ (fun x p => ⟨a0 x p, l0 x p⟩) (by decide) w0 _ x p t).trans
      (((ht t).1 ⟨a0 x p, l0 x p⟩).symm.trans (congrArg (inTables m c) (congrArg (ix2 · t) (Fin.ext (Nat.zero_add _).symm))))
  · exact (lookup_apply _ _ _ (fun x p => ⟨a1 x p, l1 x p⟩) (by decide) w1 _ x p t).trans ((ht t).2.1 ⟨a1 x p, l1 x p⟩).symm
  · exact (lookup_apply _ _ _ (fun x p => ⟨a2 x p, l2 x p⟩) (by decide) w2 _ x p t).trans ((ht t).2.2.1 ⟨a2 x p, l2 x p⟩).symm
  · exact (lookup_apply _ _ _ (fun x p => ⟨a3 x p, l3 x p⟩) (by decide) w3 _ x p t).trans ((ht t).2.2.2.1 ⟨a3 x p, l3 x p⟩).symm
  · exact (lookup_apply _ _ _ (fun x p => ⟨a4 x p, l4 x p⟩) (by decide) w4 _ x p t).trans ((ht t).2.2.2.2 ⟨a4 x p, l4 x p⟩).symm

end Cert.Equation

end
-- ==== Proof.lean ====
/- The claims, put together: the frame of both programs, and the equality of their results over the extended reals. -/
module

public import proofs.«01_k».proof.Defs
public import proofs.«01_k».proof.Proof.Run.Same
public import proofs.«01_k».proof.Proof.Value.Equation
public import Idealize.ShloMosaic.Lib.Quiescent
public import Idealize.ShloMosaic.Adequacy
public import Idealize.ShloMosaic.Init

@[expose] public section

set_option maxRecDepth 65536

noncomputable section

namespace Cert.Proof

open Idealize.ShloMosaic Idealize.SL.Sem Cert.Kernel

/-- The kernel's arguments end unchanged and every counter is zero, at the machine's own floats. -/
theorem frame_kernel : Cert.quiescent_Kernel := fun m g _ => by
  rw [Cert.Same.defs_eq, Cert.Same.main_eq]
  exact Cert.KernelIdeal.Run.frame (F := Bits) m g

/-- The same of the kernel read over the extended reals. -/
theorem frame_ideal : Cert.quiescent_KernelIdeal := fun m g _ => Cert.KernelIdeal.Run.frame m g

/-- The reference declares no counter, so its run leaves every counter zero; its arguments end unchanged. -/
theorem frame_reference : Cert.quiescent_ReferenceIdeal := fun m g _ =>
  (θ_run (Cert.ReferenceIdeal.defs (F := Ideal)) _ _).mono (fun r h => ⟨fun c => (h c).2, sem_eq_zero_of_no_sems rfl r.2⟩)
    (Cert.ReferenceIdeal.Value.run m g)

/-- From memories that agree on the arguments and meet the precondition, the two programs end with equal results. -/
theorem results_equal : Cert.algebraic_KernelIdeal_ReferenceIdeal_pre_codes_and_finite := fun m g m' g' hpre hagree => by
  refine ⟨fun c => Cert.KernelIdeal.Run.result m c, ?_, ?_⟩
  · refine (θ_run (Cert.KernelIdeal.defs (F := Ideal)) _ _).mono (fun r h c => ?_) (Cert.KernelIdeal.Run.run m g)
    have k (b : Ref Cert.KernelIdeal.sig .tc) (hb : b ∈ Cert.KernelIdeal.Run.args) :=
      Cert.KernelIdeal.Run.arg_kept m (Cert.KernelIdeal.Run.dats m) r h.1 c b hb
    exact ⟨((h.1 c).1 7).trans (Cert.KernelIdeal.Run.final m c), k _ (by simp [Cert.KernelIdeal.Run.args]),
      k _ (by simp [Cert.KernelIdeal.Run.args]), k _ (by simp [Cert.KernelIdeal.Run.args]), k _ (by simp [Cert.KernelIdeal.Run.args]),
      k _ (by simp [Cert.KernelIdeal.Run.args]), k _ (by simp [Cert.KernelIdeal.Run.args]), k _ (by simp [Cert.KernelIdeal.Run.args]),
      k _ (by simp [Cert.KernelIdeal.Run.args]), k _ (by simp [Cert.KernelIdeal.Run.args]), k _ (by simp [Cert.KernelIdeal.Run.args]),
      k _ (by simp [Cert.KernelIdeal.Run.args])⟩
  · refine (θ_run (Cert.ReferenceIdeal.defs (F := Ideal)) _ _).mono (fun r h c => ⟨?_, (h c).2⟩) (Cert.ReferenceIdeal.Value.run m' g')
    obtain ⟨e0, e1, e2, e3, e4, e5, e6, e7, e8, e9, e10⟩ := hagree c
    refine (h c).1.trans ((Cert.ReferenceIdeal.Lookup.res_eq m' c).trans ?_)
    rw [e0, e1, e2, e3, e4, e5, e6, e7, e8, e9, e10]
    exact (Cert.Equation.result_eq_value m c (hpre c)).symm

/-- Every claim. -/
theorem claim : Cert.Claim := ⟨Cert.Kernel.Gen.facts, Cert.KernelIdeal.Gen.facts, Cert.ReferenceIdeal.Gen.facts, Cert.Pre_codes_and_finite.Gen.facts,
  frame_kernel, frame_ideal, fun m g _ => frame_ideal m g trivial, frame_reference, fun m g _ => frame_reference m g trivial, trivial, results_equal⟩

end Cert.Proof

end
